-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ids_in_table [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ids_in_table [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel)
    ∧ quiescent_KernelIdeal (hKernelIdeal := hKernelIdeal)
    ∧ quiescent_KernelIdeal_pre_ids_in_table (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal_pre_ids_in_table (hKernelIdeal := hKernelIdeal) (hReferenceIdeal := hReferenceIdeal) (hPre_ids_in_table := hPre_ids_in_table)
-- ==== Pre_ids_in_table.lean ====
abbrev S1024x50 : Shape := ⟨2, ![1024, 50]⟩
abbrev S5x32 : Shape := ⟨2, ![5, 32]⟩
abbrev S32x512 : Shape := ⟨2, ![32, 512]⟩
abbrev S128x512 : Shape := ⟨2, ![128, 512]⟩
abbrev S512 : Shape := ⟨1, ![512]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S5x32 .f32) (main_arg2 : FVec F S32x512 .f32) (main_arg3 : FVec F S128x512 .f32) (main_arg4 : FVec F S512 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 5#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S5x32 : Shape := ⟨2, ![5, 32]⟩
abbrev S32x512 : Shape := ⟨2, ![32, 512]⟩
abbrev S128x512 : Shape := ⟨2, ![128, 512]⟩
abbrev S512 : Shape := ⟨1, ![512]⟩
abbrev S50x1024 : Shape := ⟨2, ![50, 1024]⟩
abbrev S1x512 : Shape := ⟨2, ![1, 512]⟩
abbrev S1024x40x128 : Shape := ⟨3, ![1024, 40, 128]⟩
abbrev S40x1024x128 : Shape := ⟨3, ![40, 1024, 128]⟩
abbrev S_ : Shape := ⟨0, ![]⟩
abbrev S5x512 : Shape := ⟨2, ![5, 512]⟩
abbrev S5x1024 : Shape := ⟨2, ![5, 1024]⟩
abbrev S133x512 : Shape := ⟨2, ![133, 512]⟩
abbrev S128x1024 : Shape := ⟨2, ![128, 1024]⟩
abbrev S1x1024 : Shape := ⟨2, ![1, 1024]⟩
abbrev S133x1024 : Shape := ⟨2, ![133, 1024]⟩
abbrev S512x1024 : Shape := ⟨2, ![512, 1024]⟩
abbrev S1024x128 : Shape := ⟨2, ![1024, 128]⟩
abbrev S1x1024x128 : Shape := ⟨3, ![1, 1024, 128]⟩
abbrev S1024x1x128 : Shape := ⟨3, ![1024, 1, 128]⟩

abbrev nBuf : Space → Nat
  | .hbm => 8
  | .vmem => 6
  | .smem => 0
  | _ => 0

abbrev bufTy : (tb : Table) → Fin (tcTables nBuf tb) → BufTy
  | .hbm, ⟨0, _⟩ => ⟨S1024x50, .i32⟩
  | .hbm, ⟨1, _⟩ => ⟨S5x32, .f32⟩
  | .hbm, ⟨2, _⟩ => ⟨S32x512, .f32⟩
  | .hbm, ⟨3, _⟩ => ⟨S128x512, .f32⟩
  | .hbm, ⟨4, _⟩ => ⟨S512, .f32⟩
  | .hbm, ⟨5, _⟩ => ⟨S50x1024, .i32⟩
  | .hbm, ⟨6, _⟩ => ⟨S1x512, .f32⟩
  | .hbm, ⟨7, _⟩ => ⟨S1024x40x128, .f32⟩
  | .local _ .vmem, ⟨0, _⟩ => ⟨S50x1024, .i32⟩
  | .local _ .vmem, ⟨1, _⟩ => ⟨S5x32, .f32⟩
  | .local _ .vmem, ⟨2, _⟩ => ⟨S32x512, .f32⟩
  | .local _ .vmem, ⟨3, _⟩ => ⟨S128x512, .f32⟩
  | .local _ .vmem, ⟨4, _⟩ => ⟨S1x512, .f32⟩
  | .local _ .vmem, ⟨5, _⟩ => ⟨S40x1024x128, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v24 : BitVec 32 := Scalar.addi c0_i32 c50_i32
  let c1_i32 : BitVec 32 := 1#32
  ⟨c0_i32, v24, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v27 : Index := Scalar.indexCast arg8
  let c0_14 : Index := 0#32
  ![v27.toNat, 0]
def k0_cond1 (k0_t1 : Fin k0_t1_loop.trips) : BitVec 1 :=
  let c0_i32 : BitVec 32 := 0#32
  let c1_i32 : BitVec 32 := 1#32
  let arg8 : BitVec 32 := Scf.iv c0_i32 c1_i32 k0_t1
  let c10_i32 : BitVec 32 := 10#32
  let v56 : BitVec 1 := Scalar.cmpi .sge arg8 c10_i32
  let v57 : BitVec 32 := Scalar.extui v56
  let c0_i32_18 : BitVec 32 := 0#32
  let v58 : BitVec 1 := Scalar.cmpi .ne v57 c0_i32_18
  v58

def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let c10_i32_19 : BitVec 32 := 10#32
  let v61 : BitVec 32 := Scalar.subi arg8 c10_i32_19
  let v62 : Index := Scalar.indexCast v61
  let c0_20 : Index := 0#32
  let c0_21 : Index := 0#32
  ![v62.toNat, 0, 0]
def k0_off3 (k0_t1 : Fin k0_t1_loop.trips) : Fin 3 → Nat :=
  let c0_i32_24 : BitVec 32 := 0#32
  let c0_i32 : BitVec 32 := 0#32
  let c1_i32 : BitVec 32 := 1#32
  let arg8 : BitVec 32 := Scf.iv c0_i32 c1_i32 k0_t1
  let c10_i32_23 : BitVec 32 := 10#32
  let v67 : BitVec 32 := Scalar.subi arg8 c10_i32_23
  let c0_i32_25 : BitVec 32 := 0#32
  ![0, v67.toNat, 0]
def k0_off4 (k0_t1 : Fin k0_t1_loop.trips) : Fin 3 → Nat :=
  let c0_i32 : BitVec 32 := 0#32
  let c1_i32 : BitVec 32 := 1#32
  let arg8 : BitVec 32 := Scf.iv c0_i32 c1_i32 k0_t1
  let c10_i32_22 : BitVec 32 := 10#32
  let v66 : BitVec 32 := Scalar.subi arg8 c10_i32_22
  let c0_i32_26 : BitVec 32 := 0#32
  let c0_i32_27 : BitVec 32 := 0#32
  ![v66.toNat, 0, 0]
@[reducible] def k0_t2_loop : Scf.Loop 32 :=
  let c0_i32_11 : BitVec 32 := 0#32
  let c40_i32 : BitVec 32 := 40#32
  let v26 : BitVec 32 := Scalar.addi c0_i32_11 c40_i32
  let c1_i32_12 : BitVec 32 := 1#32
  ⟨c0_i32_11, v26, c1_i32_12⟩
def k0_off5 (k0_t2 : Fin k0_t2_loop.trips) : Fin 3 → Nat :=
  let c0_i32_14 : BitVec 32 := 0#32
  let c0_i32_11 : BitVec 32 := 0#32
  let c1_i32_12 : BitVec 32 := 1#32
  let arg8 : BitVec 32 := Scf.iv c0_i32_11 c1_i32_12 k0_t2
  let c0_i32_15 : BitVec 32 := 0#32
  ![0, arg8.toNat, 0]
def k0_off6 (k0_t2 : Fin k0_t2_loop.trips) : Fin 3 → Nat :=
  let c0_i32_11 : BitVec 32 := 0#32
  let c1_i32_12 : BitVec 32 := 1#32
  let arg8 : BitVec 32 := Scf.iv c0_i32_11 c1_i32_12 k0_t2
  let c0_i32_16 : BitVec 32 := 0#32
  let c0_i32_17 : BitVec 32 := 0#32
  ![arg8.toNat, 0, 0]
abbrev stage0_0 : Fin 1 → Memref sig .tc .vmem S50x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x50 : Shape := ⟨2, ![1024, 50]⟩
abbrev S5x32 : Shape := ⟨2, ![5, 32]⟩
abbrev S32x512 : Shape := ⟨2, ![32, 512]⟩
abbrev S128x512 : Shape := ⟨2, ![128, 512]⟩
abbrev S512 : Shape := ⟨1, ![512]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x32 : Shape := ⟨3, ![1024, 50, 32]⟩
abbrev S50x1024x32 : Shape := ⟨3, ![50, 1024, 32]⟩
abbrev S1024x128 : Shape := ⟨2, ![1024, 128]⟩
abbrev S10x1024x32 : Shape := ⟨3, ![10, 1024, 32]⟩
abbrev S10x1024x128 : Shape := ⟨3, ![10, 1024, 128]⟩
abbrev S1x1024x32 : Shape := ⟨3, ![1, 1024, 32]⟩
abbrev S1024x32 : Shape := ⟨2, ![1024, 32]⟩
abbrev S1024x512 : Shape := ⟨2, ![1024, 512]⟩
abbrev S1x512 : Shape := ⟨2, ![1, 512]⟩
abbrev S1x1024x128 : Shape := ⟨3, ![1, 1024, 128]⟩
abbrev S40x1024x32 : Shape := ⟨3, ![40, 1024, 32]⟩
abbrev S40x1024x128 : Shape := ⟨3, ![40, 1024, 128]⟩
abbrev S1024x40x128 : Shape := ⟨3, ![1024, 40, 128]⟩

abbrev nBuf : Space → Nat
  | .hbm => 162
  | .vmem => 0
  | .smem => 0
  | _ => 0

abbrev hbmTy0_0 (i : Nat) : BufTy := match i % 128 with
  | 0 => ⟨S1024x50, .i32⟩
  | 1 => ⟨S5x32, .f32⟩
  | 2 => ⟨S32x512, .f32⟩
  | 3 => ⟨S128x512, .f32⟩
  | 4 => ⟨S512, .f32⟩
  | 5 => ⟨S_, .i32⟩
  | 6 => ⟨S1024x50, .i32⟩
  | 7 => ⟨S1024x50, .i1⟩
  | 8 => ⟨S_, .i32⟩
  | 9 => ⟨S1024x50, .i32⟩
  | 10 => ⟨S1024x50, .i32⟩
  | 11 => ⟨S1024x50, .i32⟩
  | 12 => ⟨S1024x50x1, .i32⟩
  | 13 => ⟨S1, .i32⟩
  | 14 => ⟨S_, .i32⟩
  | 15 => ⟨S1024x50x1, .i32⟩
  | 16 => ⟨S1024x50x1, .i1⟩
  | 17 => ⟨S1x1x1, .i32⟩
  | 18 => ⟨S1024x50x1, .i32⟩
  | 19 => ⟨S1024x50x1, .i1⟩
  | 20 => ⟨S1024x50x1, .i1⟩
  | 21 => ⟨S_, .i1⟩
  | 22 => ⟨S1024x50, .i1⟩
  | 23 => ⟨S1024x50x32, .f32⟩
  | 24 => ⟨S1024x50x32, .i1⟩
  | 25 => ⟨S_, .f32⟩
  | 26 => ⟨S1024x50x32, .f32⟩
  | 27 => ⟨S1024x50x32, .f32⟩
  | 28 => ⟨S50x1024x32, .f32⟩
  | 29 => ⟨S_, .f32⟩
  | 30 => ⟨S1024x128, .f32⟩
  | 31 => ⟨S_, .f32⟩
  | 32 => ⟨S1024x128, .f32⟩
  | 33 => ⟨S10x1024x32, .f32⟩
  | 34 => ⟨S_, .f32⟩
  | 35 => ⟨S10x1024x128, .f32⟩
  | 36 => ⟨S_, .i32⟩
  | 37 => ⟨S10x1024x32, .f32⟩
  | 38 => ⟨S32x512, .f32⟩
  | 39 => ⟨S128x512, .f32⟩
  | 40 => ⟨S512, .f32⟩
  | 41 => ⟨S_, .i32⟩
  | 42 => ⟨S1024x128, .f32⟩
  | 43 => ⟨S1024x128, .f32⟩
  | 44 => ⟨S10x1024x128, .f32⟩
  | 45 => ⟨S_, .i32⟩
  | 46 => ⟨S_, .i1⟩
  | 47 => ⟨S_, .i32⟩
  | 48 => ⟨S_, .i32⟩
  | 49 => ⟨S1x1024x32, .f32⟩
  | 50 => ⟨S1024x32, .f32⟩
  | 51 => ⟨S1024x512, .f32⟩
  | 52 => ⟨S1024x512, .f32⟩
  | 53 => ⟨S1024x512, .f32⟩
  | 54 => ⟨S1x512, .f32⟩
  | 55 => ⟨S1024x512, .f32⟩
  | 56 => ⟨S1024x512, .f32⟩
  | 57 => ⟨S1024x128, .f32⟩
  | 58 => ⟨S1024x128, .f32⟩
  | 59 => ⟨S1024x128, .f32⟩
  | 60 => ⟨S1024x128, .f32⟩
  | 61 => ⟨S1024x128, .f32⟩
  | 62 => ⟨S1024x128, .f32⟩
  | 63 => ⟨S_, .f32⟩
  | 64 => ⟨S1024x128, .f32⟩
  | 65 => ⟨S1024x128, .f32⟩
  | 66 => ⟨S_, .f32⟩
  | 67 => ⟨S1024x128, .f32⟩
  | 68 => ⟨S1024x128, .f32⟩
  | 69 => ⟨S1024x128, .f32⟩
  | 70 => ⟨S1024x128, .f32⟩
  | 71 => ⟨S_, .f32⟩
  | 72 => ⟨S1024x128, .f32⟩
  | 73 => ⟨S1024x128, .f32⟩
  | 74 => ⟨S_, .f32⟩
  | 75 => ⟨S1024x128, .f32⟩
  | 76 => ⟨S1024x128, .f32⟩
  | 77 => ⟨S1024x128, .f32⟩
  | 78 => ⟨S1024x128, .f32⟩
  | 79 => ⟨S1024x128, .f32⟩
  | 80 => ⟨S_, .f32⟩
  | 81 => ⟨S1024x128, .f32⟩
  | 82 => ⟨S1024x128, .f32⟩
  | 83 => ⟨S_, .f32⟩
  | 84 => ⟨S1024x128, .f32⟩
  | 85 => ⟨S1024x128, .f32⟩
  | 86 => ⟨S1024x128, .f32⟩
  | 87 => ⟨S1024x128, .f32⟩
  | 88 => ⟨S1024x128, .f32⟩
  | 89 => ⟨S1024x128, .f32⟩
  | 90 => ⟨S1024x128, .f32⟩
  | 91 => ⟨S1x1024x128, .f32⟩
  | 92 => ⟨S_, .i32⟩
  | 93 => ⟨S_, .i32⟩
  | 94 => ⟨S10x1024x128, .f32⟩
  | 95 => ⟨S_, .i32⟩
  | 96 => ⟨S_, .i32⟩
  | 97 => ⟨S40x1024x32, .f32⟩
  | 98 => ⟨S_, .f32⟩
  | 99 => ⟨S40x1024x128, .f32⟩
  | 100 => ⟨S_, .i32⟩
  | 101 => ⟨S40x1024x32, .f32⟩
  | 102 => ⟨S32x512, .f32⟩
  | 103 => ⟨S128x512, .f32⟩
  | 104 => ⟨S512, .f32⟩
  | 105 => ⟨S_, .i32⟩
  | 106 => ⟨S1024x128, .f32⟩
  | 107 => ⟨S1024x128, .f32⟩
  | 108 => ⟨S40x1024x128, .f32⟩
  | 109 => ⟨S_, .i32⟩
  | 110 => ⟨S_, .i1⟩
  | 111 => ⟨S_, .i32⟩
  | 112 => ⟨S_, .i32⟩
  | 113 => ⟨S1x1024x32, .f32⟩
  | 114 => ⟨S1024x32, .f32⟩
  | 115 => ⟨S1024x512, .f32⟩
  | 116 => ⟨S1024x512, .f32⟩
  | 117 => ⟨S1024x512, .f32⟩
  | 118 => ⟨S1x512, .f32⟩
  | 119 => ⟨S1024x512, .f32⟩
  | 120 => ⟨S1024x512, .f32⟩
  | 121 => ⟨S1024x128, .f32⟩
  | 122 => ⟨S1024x128, .f32⟩
  | 123 => ⟨S1024x128, .f32⟩
  | 124 => ⟨S1024x128, .f32⟩
  | 125 => ⟨S1024x128, .f32⟩
  | 126 => ⟨S1024x128, .f32⟩
  | 127 => ⟨S_, .f32⟩
  | _ => ⟨S1024x50, .i32⟩

abbrev hbmTy0_1 (i : Nat) : BufTy := match i % 128 with
  | 0 => ⟨S1024x128, .f32⟩
  | 1 => ⟨S1024x128, .f32⟩
  | 2 => ⟨S_, .f32⟩
  | 3 => ⟨S1024x128, .f32⟩
  | 4 => ⟨S1024x128, .f32⟩
  | 5 => ⟨S1024x128, .f32⟩
  | 6 => ⟨S1024x128, .f32⟩
  | 7 => ⟨S_, .f32⟩
  | 8 => ⟨S1024x128, .f32⟩
  | 9 => ⟨S1024x128, .f32⟩
  | 10 => ⟨S_, .f32⟩
  | 11 => ⟨S1024x128, .f32⟩
  | 12 => ⟨S1024x128, .f32⟩
  | 13 => ⟨S1024x128, .f32⟩
  | 14 => ⟨S1024x128, .f32⟩
  | 15 => ⟨S1024x128, .f32⟩
  | 16 => ⟨S_, .f32⟩
  | 17 => ⟨S1024x128, .f32⟩
  | 18 => ⟨S1024x128, .f32⟩
  | 19 => ⟨S_, .f32⟩
  | 20 => ⟨S1024x128, .f32⟩
  | 21 => ⟨S1024x128, .f32⟩
  | 22 => ⟨S1024x128, .f32⟩
  | 23 => ⟨S1024x128, .f32⟩
  | 24 => ⟨S1024x128, .f32⟩
  | 25 => ⟨S1024x128, .f32⟩
  | 26 => ⟨S1024x128, .f32⟩
  | 27 => ⟨S1x1024x128, .f32⟩
  | 28 => ⟨S_, .i32⟩
  | 29 => ⟨S_, .i32⟩
  | 30 => ⟨S40x1024x128, .f32⟩
  | 31 => ⟨S_, .i32⟩
  | 32 => ⟨S_, .i32⟩
  | 33 => ⟨S1024x40x128, .f32⟩
  | _ => ⟨S1024x50, .i32⟩

abbrev hbmTy (i : Nat) : BufTy := match i / 128 with
  | 0 => hbmTy0_0 i
  | 1 => hbmTy0_1 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_c : Ref sig .tc := ⟨.hbm, 36, rfl⟩
abbrev main_v6_0 : Ref sig .tc := ⟨.hbm, 37, rfl⟩
abbrev main_v6_1 : Ref sig .tc := ⟨.hbm, 38, rfl⟩
abbrev main_v6_2 : Ref sig .tc := ⟨.hbm, 39, rfl⟩
abbrev main_v6_3 : Ref sig .tc := ⟨.hbm, 40, rfl⟩
abbrev main_v6_4 : Ref sig .tc := ⟨.hbm, 41, rfl⟩
abbrev main_v6_5 : Ref sig .tc := ⟨.hbm, 42, rfl⟩
abbrev main_v6_6 : Ref sig .tc := ⟨.hbm, 43, rfl⟩
abbrev main_v6_7 : Ref sig .tc := ⟨.hbm, 44, rfl⟩
abbrev main_while0c_c_11 : Ref sig .tc := ⟨.hbm, 45, rfl⟩
abbrev main_while0c_v11 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v11 : Ref sig .tc := ⟨.hbm, 50, rfl⟩
abbrev main_while0b_v12 : Ref sig .tc := ⟨.hbm, 51, rfl⟩
abbrev main_while0b_v13 : Ref sig .tc := ⟨.hbm, 52, rfl⟩
abbrev main_while0b_v14 : Ref sig .tc := ⟨.hbm, 53, rfl⟩
abbrev main_while0b_v15 : Ref sig .tc := ⟨.hbm, 54, rfl⟩
abbrev main_while0b_v16 : Ref sig .tc := ⟨.hbm, 55, rfl⟩
abbrev main_while0b_v17 : Ref sig .tc := ⟨.hbm, 56, rfl⟩
abbrev main_while0b_v18 : Ref sig .tc := ⟨.hbm, 57, rfl⟩
abbrev main_while0b_v19 : Ref sig .tc := ⟨.hbm, 58, rfl⟩
abbrev main_while0b_v20 : Ref sig .tc := ⟨.hbm, 59, rfl⟩
abbrev main_while0b_v21 : Ref sig .tc := ⟨.hbm, 60, rfl⟩
abbrev main_while0b_v22 : Ref sig .tc := ⟨.hbm, 61, rfl⟩
abbrev main_while0b_v23 : Ref sig .tc := ⟨.hbm, 62, rfl⟩
abbrev main_while0b_cst_11 : Ref sig .tc := ⟨.hbm, 63, rfl⟩
abbrev main_while0b_v24 : Ref sig .tc := ⟨.hbm, 64, rfl⟩
abbrev main_while0b_v25 : Ref sig .tc := ⟨.hbm, 65, rfl⟩
abbrev main_while0b_cst_12 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_cst_13 : Ref sig .tc := ⟨.hbm, 71, rfl⟩
abbrev main_while0b_v30 : Ref sig .tc := ⟨.hbm, 72, rfl⟩
abbrev main_while0b_v31 : Ref sig .tc := ⟨.hbm, 73, rfl⟩
abbrev main_while0b_cst_14 : Ref sig .tc := ⟨.hbm, 74, rfl⟩
abbrev main_while0b_v32 : Ref sig .tc := ⟨.hbm, 75, rfl⟩
abbrev main_while0b_v33 : Ref sig .tc := ⟨.hbm, 76, rfl⟩
abbrev main_while0b_v34 : Ref sig .tc := ⟨.hbm, 77, rfl⟩
abbrev main_while0b_v35 : Ref sig .tc := ⟨.hbm, 78, rfl⟩
abbrev main_while0b_v36 : Ref sig .tc := ⟨.hbm, 79, rfl⟩
abbrev main_while0b_cst_15 : Ref sig .tc := ⟨.hbm, 80, rfl⟩
abbrev main_while0b_v37 : Ref sig .tc := ⟨.hbm, 81, rfl⟩
abbrev main_while0b_v38 : Ref sig .tc := ⟨.hbm, 82, rfl⟩
abbrev main_while0b_cst_16 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_v45 : Ref sig .tc := ⟨.hbm, 90, rfl⟩
abbrev main_while0b_call2_v0 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_v46 : Ref sig .tc := ⟨.hbm, 94, rfl⟩
abbrev main_while0b_c_17 : Ref sig .tc := ⟨.hbm, 95, rfl⟩
abbrev main_while0b_v47 : Ref sig .tc := ⟨.hbm, 96, rfl⟩
abbrev main_v7 : Ref sig .tc := ⟨.hbm, 97, rfl⟩
abbrev main_cst_2 : Ref sig .tc := ⟨.hbm, 98, rfl⟩
abbrev main_v8 : Ref sig .tc := ⟨.hbm, 99, rfl⟩
abbrev main_c_3 : Ref sig .tc := ⟨.hbm, 100, rfl⟩
abbrev main_v9_0 : Ref sig .tc := ⟨.hbm, 101, rfl⟩
abbrev main_v9_1 : Ref sig .tc := ⟨.hbm, 102, rfl⟩
abbrev main_v9_2 : Ref sig .tc := ⟨.hbm, 103, rfl⟩
abbrev main_v9_3 : Ref sig .tc := ⟨.hbm, 104, rfl⟩
abbrev main_v9_4 : Ref sig .tc := ⟨.hbm, 105, rfl⟩
abbrev main_v9_5 : Ref sig .tc := ⟨.hbm, 106, rfl⟩
abbrev main_v9_6 : Ref sig .tc := ⟨.hbm, 107, rfl⟩
abbrev main_v9_7 : Ref sig .tc := ⟨.hbm, 108, rfl⟩
abbrev main_while1c_c_11 : Ref sig .tc := ⟨.hbm, 109, rfl⟩
abbrev main_while1c_v11 : Ref sig .tc := ⟨.hbm, 110, rfl⟩
abbrev main_while1b_call3_c : Ref sig .tc := ⟨.hbm, 111, rfl⟩
abbrev main_while1b_call3_c_0 : Ref sig .tc := ⟨.hbm, 112, rfl⟩
abbrev main_while1b_call3_v0 : Ref sig .tc := ⟨.hbm, 113, rfl⟩
abbrev main_while1b_v11 : Ref sig .tc := ⟨.hbm, 114, rfl⟩
abbrev main_while1b_v12 : Ref sig .tc := ⟨.hbm, 115, rfl⟩
abbrev main_while1b_v13 : Ref sig .tc := ⟨.hbm, 116, rfl⟩
abbrev main_while1b_v14 : Ref sig .tc := ⟨.hbm, 117, rfl⟩
abbrev main_while1b_v15 : Ref sig .tc := ⟨.hbm, 118, rfl⟩
abbrev main_while1b_v16 : Ref sig .tc := ⟨.hbm, 119, rfl⟩
abbrev main_while1b_v17 : Ref sig .tc := ⟨.hbm, 120, rfl⟩
abbrev main_while1b_v18 : Ref sig .tc := ⟨.hbm, 121, rfl⟩
abbrev main_while1b_v19 : Ref sig .tc := ⟨.hbm, 122, rfl⟩
abbrev main_while1b_v20 : Ref sig .tc := ⟨.hbm, 123, rfl⟩
abbrev main_while1b_v21 : Ref sig .tc := ⟨.hbm, 124, rfl⟩
abbrev main_while1b_v22 : Ref sig .tc := ⟨.hbm, 125, rfl⟩
abbrev main_while1b_v23 : Ref sig .tc := ⟨.hbm, 126, rfl⟩
abbrev main_while1b_cst_11 : Ref sig .tc := ⟨.hbm, 127, rfl⟩
abbrev main_while1b_v24 : Ref sig .tc := ⟨.hbm, 128, rfl⟩
abbrev main_while1b_v25 : Ref sig .tc := ⟨.hbm, 129, rfl⟩
abbrev main_while1b_cst_12 : Ref sig .tc := ⟨.hbm, 130, rfl⟩
abbrev main_while1b_v26 : Ref sig .tc := ⟨.hbm, 131, rfl⟩
abbrev main_while1b_v27 : Ref sig .tc := ⟨.hbm, 132, rfl⟩
abbrev main_while1b_v28 : Ref sig .tc := ⟨.hbm, 133, rfl⟩
abbrev main_while1b_v29 : Ref sig .tc := ⟨.hbm, 134, rfl⟩
abbrev main_while1b_cst_13 : Ref sig .tc := ⟨.hbm, 135, rfl⟩
abbrev main_while1b_v30 : Ref sig .tc := ⟨.hbm, 136, rfl⟩
abbrev main_while1b_v31 : Ref sig .tc := ⟨.hbm, 137, rfl⟩
abbrev main_while1b_cst_14 : Ref sig .tc := ⟨.hbm, 138, rfl⟩
abbrev main_while1b_v32 : Ref sig .tc := ⟨.hbm, 139, rfl⟩
abbrev main_while1b_v33 : Ref sig .tc := ⟨.hbm, 140, rfl⟩
abbrev main_while1b_v34 : Ref sig .tc := ⟨.hbm, 141, rfl⟩
abbrev main_while1b_v35 : Ref sig .tc := ⟨.hbm, 142, rfl⟩
abbrev main_while1b_v36 : Ref sig .tc := ⟨.hbm, 143, rfl⟩
abbrev main_while1b_cst_15 : Ref sig .tc := ⟨.hbm, 144, rfl⟩
abbrev main_while1b_v37 : Ref sig .tc := ⟨.hbm, 145, rfl⟩
abbrev main_while1b_v38 : Ref sig .tc := ⟨.hbm, 146, rfl⟩
abbrev main_while1b_cst_16 : Ref sig .tc := ⟨.hbm, 147, rfl⟩
abbrev main_while1b_v39 : Ref sig .tc := ⟨.hbm, 148, rfl⟩
abbrev main_while1b_v40 : Ref sig .tc := ⟨.hbm, 149, rfl⟩
abbrev main_while1b_v41 : Ref sig .tc := ⟨.hbm, 150, rfl⟩
abbrev main_while1b_v42 : Ref sig .tc := ⟨.hbm, 151, rfl⟩
abbrev main_while1b_v43 : Ref sig .tc := ⟨.hbm, 152, rfl⟩
abbrev main_while1b_v44 : Ref sig .tc := ⟨.hbm, 153, rfl⟩
abbrev main_while1b_v45 : Ref sig .tc := ⟨.hbm, 154, rfl⟩
abbrev main_while1b_call4_v0 : Ref sig .tc := ⟨.hbm, 155, rfl⟩
abbrev main_while1b_call4_c : Ref sig .tc := ⟨.hbm, 156, rfl⟩
abbrev main_while1b_call4_c_0 : Ref sig .tc := ⟨.hbm, 157, rfl⟩
abbrev main_while1b_v46 : Ref sig .tc := ⟨.hbm, 158, rfl⟩
abbrev main_while1b_c_17 : Ref sig .tc := ⟨.hbm, 159, rfl⟩
abbrev main_while1b_v47 : Ref sig .tc := ⟨.hbm, 160, rfl⟩
abbrev main_v10 : Ref sig .tc := ⟨.hbm, 161, rfl⟩

abbrev nD : Nat := 1
abbrev τ : Topo := Topo.v7x

variable {F : FTy → Type} [FloatOps F]

abbrev main_while0_count : Scf.Loop 32 := ⟨0#32, 10#32, 1#32⟩

abbrev main_while1_count : Scf.Loop 32 := ⟨0#32, 40#32, 1#32⟩
-- ==== Proof.KernelIdeal.Blocks.lean ====
/-
  What the recurrent kernel's loop computes, trip by trip, and the blocks its copies move.

  The kernel carries the hidden and the cell state of every batch row, transposed, through fifty trips. From trip ten on
  it keeps the new hidden state, turned back, in one of forty slots of a scratch buffer, and copies that slot into one
  step of the result. This module names the states (`stAt`), the slots (`slot`) and the steps of the result (`win`),
  and shows that a slot just stored reads as the step of the result it is copied to (`slot_read`, `win_read`).
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.Batch
public import Idealize.ShloMosaic.Lib.DeliveryRep
public import Idealize.ShloMosaic.Lib.Ring
public import Idealize.ShloMosaic.Lib.VecWindow
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The loop's trip count, its condition and its offsets -/

theorem trips1 : k0_t1_loop.trips = 50 := by decide +kernel
theorem trips2 : k0_t2_loop.trips = 40 := by decide +kernel

/-- The store and the copy of a trip run from trip ten on, -/
theorem cond1_iff : ∀ k : Fin k0_t1_loop.trips, k0_cond1 k = 1#1 ↔ 10 ≤ k.val := by decide +kernel
/-- and then on the slot and the step numbered ten less than the trip. -/
theorem off2_eq : ∀ k : Fin k0_t1_loop.trips, 10 ≤ k.val → k0_off2 k = ![k.val - 10, 0, 0] := by decide +kernel
theorem off3_eq : ∀ k : Fin k0_t1_loop.trips, 10 ≤ k.val → k0_off3 k = ![0, k.val - 10, 0] := by decide +kernel
theorem off4_eq : ∀ k : Fin k0_t1_loop.trips, 10 ≤ k.val → k0_off4 k = ![k.val - 10, 0, 0] := by decide +kernel

/-! ## The states -/

/-- The batch's ids at step `k`, as the kernel loads them from the ids laid out by step. -/
def rowAt (ids : Vec F S50x1024 .i32) (k : Fin k0_t1_loop.trips) : Vec F S1x1024 .i32 :=
  View.ld ids (Rect.unit (s := S50x1024) (k0_off1 k) S1x1024.size (k0_off1_inb k))

/-- The hidden and the cell state before trip `k`: zero, then the region's two results trip after trip. -/
def stAt (ids : Vec F S50x1024 .i32) (emb : Vec F S5x32 .f32) (wk : Vec F S32x512 .f32) (b : Vec F S1x512 .f32)
    (wr : Vec F S128x512 .f32) : ℕ → FVec F S128x1024 .f32 × FVec F S128x1024 .f32
  | 0 => (k0_pay1, k0_pay1)
  | k + 1 => if h : k < k0_t1_loop.trips then
      (k0_pay4 emb wk b wr (stAt ids emb wk b wr k).1 (stAt ids emb wk b wr k).2 (rowAt ids ⟨k, h⟩),
        k0_pay3 emb wk b wr (stAt ids emb wk b wr k).1 (stAt ids emb wk b wr k).2 (rowAt ids ⟨k, h⟩))
    else stAt ids emb wk b wr k

theorem stAt_succ (ids : Vec F S50x1024 .i32) (emb : Vec F S5x32 .f32) (wk : Vec F S32x512 .f32) (b : Vec F S1x512 .f32)
    (wr : Vec F S128x512 .f32) (k : Fin k0_t1_loop.trips) :
    stAt ids emb wk b wr (k.val + 1)
      = (k0_pay4 emb wk b wr (stAt ids emb wk b wr k.val).1 (stAt ids emb wk b wr k.val).2 (rowAt ids k),
        k0_pay3 emb wk b wr (stAt ids emb wk b wr k.val).1 (stAt ids emb wk b wr k.val).2 (rowAt ids k)) := by
  conv_lhs => unfold stAt
  rw [dif_pos k.isLt]

/-- The result: at batch row `i 0`, kept step `i 1`, unit `i 2`, the hidden state after ten steps and `i 1` more. -/
def outArr (ids : Vec F S50x1024 .i32) (emb : Vec F S5x32 .f32) (wk : Vec F S32x512 .f32) (b : Vec F S1x512 .f32)
    (wr : Vec F S128x512 .f32) : S1024x40x128.Idx → Elt F .f32 :=
  fun i => (stAt ids emb wk b wr ((i 1).val + 11)).1 (ix2 (i 2 : Fin 128) (i 0 : Fin 1024))

/-! ## The slots and the steps of the result -/

theorem inb_slot (b : Fin 40) : ∀ a, (![b.val, 0, 0] : Fin 3 → Nat) a + S1x1024x128.size a ≤ S40x1024x128.size a := by
  have := b.isLt; intro a; fin_cases a
  · show b.val + 1 ≤ 40; omega
  · show 0 + 1024 ≤ 1024; omega
  · show 0 + 128 ≤ 128; omega
theorem inb_win (b : Fin 40) : ∀ a, (![0, b.val, 0] : Fin 3 → Nat) a + S1024x1x128.size a ≤ S1024x40x128.size a := by
  have := b.isLt; intro a; fin_cases a
  · show 0 + 1024 ≤ 1024; omega
  · show b.val + 1 ≤ 40; omega
  · show 0 + 128 ≤ 128; omega

abbrev outM : Memref sig .tc .hbm S1024x40x128 .f32 := Memref.whole main_v2
abbrev scrM : Memref sig .tc .vmem S40x1024x128 .f32 := Memref.whole cc0_scratch0
abbrev rSlot (b : Fin 40) : Rect S40x1024x128 := Rect.unit (s := S40x1024x128) ![b.val, 0, 0] S1x1024x128.size (inb_slot b)
abbrev rWin (b : Fin 40) : Rect S1024x40x128 := Rect.unit (s := S1024x40x128) ![0, b.val, 0] S1024x1x128.size (inb_win b)

/-- Slot `b` of the scratch buffer and step `b` of the result, as the copies name them. -/
def slot (b : Fin 40) : Memref sig .tc .vmem S1024x128 .f32 :=
  (scrM.slice (rSlot b) (fun _ => rfl)).squeeze S1024x128 squeezes_S1x1024x128_S1024x128
def win (b : Fin 40) : Memref sig .tc .hbm S1024x128 .f32 :=
  (outM.slice (rWin b) (fun _ => rfl)).squeeze S1024x128 squeezes_S1024x1x128_S1024x128

/-- One copy's credit on the cell. -/
abbrev N : ℕ := 16384
theorem win_amount (b : Fin 40) : (win b).view.amount (SemLoc.dma (sig := sig) 5) = N := by
  unfold win
  show RefSig.tileCredit S1024x128 .f32 = 16384
  decide +kernel

theorem slot_set (b : Fin 40) : (slot b).view.set = (rSlot b).set := by
  unfold slot; exact (View.set_reshape _ _).trans (View.set_slice_whole _ _)
theorem win_set (b : Fin 40) : (win b).view.set = (rWin b).set := by
  unfold win; exact (View.set_reshape _ _).trans (View.set_slice_whole _ _)

/-! ### Their elements: each element of either array in exactly one of them -/

abbrev slotSet (b : Fin 40) : Finset S40x1024x128.Idx := (rSlot b).set
abbrev winSet (b : Fin 40) : Finset S1024x40x128.Idx := (rWin b).set

theorem mem_slotSet (b : Fin 40) (y : S40x1024x128.Idx) : y ∈ slotSet b ↔ (y 0).val = b.val := by
  rw [Rect.mem_set_unit]
  have h1 : (y 1).val < 1024 := (y 1).isLt
  have h2 : (y 2).val < 128 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 1024; omega
    · show 0 ≤ (y 2).val ∧ (y 2).val < 0 + 128; omega
theorem mem_winSet (b : Fin 40) (y : S1024x40x128.Idx) : y ∈ winSet b ↔ (y 1).val = b.val := by
  rw [Rect.mem_set_unit]
  have h0 : (y 0).val < 1024 := (y 0).isLt
  have h2 : (y 2).val < 128 := (y 2).isLt
  constructor
  · intro H; have a1 : b.val ≤ (y 1).val ∧ (y 1).val < b.val + 1 := H 1; omega
  · intro H a; fin_cases a
    · show 0 ≤ (y 0).val ∧ (y 0).val < 0 + 1024; omega
    · show b.val ≤ (y 1).val ∧ (y 1).val < b.val + 1; omega
    · show 0 ≤ (y 2).val ∧ (y 2).val < 0 + 128; omega
theorem slotSet_disjoint : ∀ b b' : Fin 40, b ≠ b' → Disjoint (slotSet b) (slotSet b') := fun b b' hne => by
  rw [Finset.disjoint_left]; intro y hy hy'; rw [mem_slotSet] at hy hy'; exact hne (Fin.ext (by omega))
theorem winSet_disjoint : ∀ b b' : Fin 40, b ≠ b' → Disjoint (winSet b) (winSet b') := fun b b' hne => by
  rw [Finset.disjoint_left]; intro y hy hy'; rw [mem_winSet] at hy hy'; exact hne (Fin.ext (by omega))
theorem slotSet_cover : Finset.univ.biUnion slotSet = Finset.univ := by
  ext y; simp only [Finset.mem_biUnion, Finset.mem_univ, true_and, iff_true]; exact ⟨y 0, (mem_slotSet _ _).mpr rfl⟩
theorem winSet_cover : Finset.univ.biUnion winSet = Finset.univ := by
  ext y; simp only [Finset.mem_biUnion, Finset.mem_univ, true_and, iff_true]; exact ⟨y 1, (mem_winSet _ _).mpr rfl⟩

/-! ## What a copy carries -/

variable (ids : Vec F S50x1024 .i32) (emb : Vec F S5x32 .f32) (wk : Vec F S32x512 .f32) (b : Vec F S1x512 .f32) (wr : Vec F S128x512 .f32)

/-- Step `t` of the result, by batch row and unit: the hidden state after trip `t + 10`, turned back. -/
def kept (t : Fin 40) : S1024x128.Idx → Elt F .f32 :=
  fun y => (stAt ids emb wk b wr (t.val + 11)).1 (ix2 (y 1 : Fin 128) (y 0 : Fin 1024))

theorem reshape_win (h : S1024x128.numel = S1024x1x128.numel) (x : Fin 1024) (y : Fin 128) :
    Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * 128 + y.val) = x.val * 128 + y.val
    simp only [Nat.mul_one, Nat.add_zero])

/-- The result read through step `t`. -/
theorem win_read (t : Fin 40) : (win t).view.read (Elt F) (outArr ids emb wk b wr) = kept ids emb wk b wr t := by
  funext y
  obtain ⟨p, q, rfl⟩ : ∃ (p : Fin 1024) (q : Fin 128), y = ix2 p q := ⟨y 0, y 1, eq_ix2 y⟩
  show outArr ids emb wk b wr ((rWin t).emb (Shape.reshapeEquiv squeezes_S1024x1x128_S1024x128.numel_eq (ix2 p q))) = _
  have e : (rWin t).emb (Shape.reshapeEquiv squeezes_S1024x1x128_S1024x128.numel_eq (ix2 p q)) = (ix3 p t q : S1024x40x128.Idx) := by
    rw [show Shape.reshapeEquiv squeezes_S1024x1x128_S1024x128.numel_eq (ix2 p q) = ix3 p (⟨0, Nat.one_pos⟩ : Fin 1) q from
      reshape_win _ p q]
    funext a; apply Fin.ext; fin_cases a
    · show 0 + 1 * p.val = p.val; omega
    · show t.val + 1 * 0 = t.val; omega
    · show 0 + 1 * q.val = q.val; omega
  rw [e]; rfl

/-- Trip `k ≥ 10` stores into its slot what the slot's copy is to carry. -/
theorem pay5_kept (k : Fin k0_t1_loop.trips) (t : Fin 40) (ht : t.val + 10 = k.val) :
    shapeCast S1024x128 (k0_pay5 emb wk b wr (stAt ids emb wk b wr k.val).1 (stAt ids emb wk b wr k.val).2 (rowAt ids k))
      (show S1x1024x128.ShapeCasts S1024x128 by decide) = kept ids emb wk b wr t := by
  funext y
  obtain ⟨p, q, rfl⟩ : ∃ (p : Fin 1024) (q : Fin 128), y = ix2 p q := ⟨y 0, y 1, eq_ix2 y⟩
  unfold k0_pay5
  dsimp only
  rw [shapeCast_1ab_ab_apply, shapeCast_self, shapeCast_ab_1ab_apply, transpose_ix2_apply]
  unfold kept
  rw [show t.val + 11 = k.val + 1 by omega, stAt_succ]

end Cert.KernelIdeal.Hand

end
-- ==== Proof.KernelIdeal.Issue.lean ====
/-
  The first loop: fifty steps of the recurrence, forty of them starting a copy.

  Before trip `k` the loop carries the states `stAt k`; the `k - 10` first copies are in flight on the one cell, none
  consumed; the slots and the steps of the result from `k - 10` on are still in hand. A trip computes the next states
  (`step_quiet`, before trip ten) and from trip ten on also stores its slot and starts the slot's copy (`step_copy`).
-/
module

public import proofs.«01_k».proof.Proof.KernelIdeal.Blocks

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (ids : Vec F S50x1024 .i32) (emb : Vec F S5x32 .f32) (wk : Vec F S32x512 .f32) (b : Vec F S1x512 .f32)
  (wr : Vec F S128x512 .f32)

/-- Slot `t` owned, at some contents; step `t` of the result owned, at some contents, -/
def ownSlot (t : Fin 40) : sProp 𝕄 := iprop(∃ g, (slot t).view.loc (c : Thread nD τ) ↦[(slot t).view.set]{fullShare} g)
def ownWin (t : Fin 40) : sProp 𝕄 := iprop(∃ g, (win t).view.loc (c : Thread nD τ) ↦[(win t).view.set]{fullShare} g)
/-- The result's own contents, at step `t`'s buffer; -/
def outBuf (t : Fin 40) : Buf (Elt F) ((win t).view.loc (c : Thread nD τ)) := outArr ids emb wk b wr
/-- and the step landed: at the result's own contents. -/
def landed (t : Fin 40) : sProp 𝕄 := (win t).view.loc (c : Thread nD τ) ↦[(win t).view.set]{fullShare} outBuf c ids emb wk b wr t

/-- What the copy numbered `t` delivers: its step of the result landed, and its slot back. -/
def dlv (t : Fin 40) : sProp 𝕄 := iprop(landed c ids emb wk b wr t ∗ ownSlot (F := F) c t)

instance landed_storable (t : Fin 40) : Storable (upEmb : UEmb _ 𝕄) (landed c ids emb wk b wr t) := by
  unfold landed; exact inferInstance
instance ownSlot_storable (t : Fin 40) : Storable (upEmb : UEmb _ 𝕄) (ownSlot (F := F) c t) := by
  unfold ownSlot; exact inferInstance
instance dlv_storable (t : Fin 40) : Storable (upEmb : UEmb _ 𝕄) (dlv c ids emb wk b wr t) := by
  unfold dlv; exact inferInstance

/-- The forty copies' batch on the cell: `j` started, `u` units consumed. -/
abbrev batch (j u : ℕ) : sProp 𝕄 :=
  Transfers.Batch (countersEmb (U := Pipeline.UD sig nD τ)) (c : Thread nD τ) (SemLoc.dma 5) () N (dlv c ids emb wk b wr) j u

/-- The slots and the steps of the result from number `a` on, in hand. -/
abbrev slotsFrom (a : ℕ) : sProp 𝕄 := bigSep (Ring.rangeSet 40 a 40) (ownSlot (F := F) c)
abbrev winsFrom (a : ℕ) : sProp 𝕄 := bigSep (Ring.rangeSet 40 a 40) (ownWin (F := F) c)

variable (arg0 : Memref sig .tc .vmem S50x1024 .i32) (harg0 : arg0.IsWhole) (arg1 : Memref sig .tc .vmem S5x32 .f32) (harg1 : arg1.IsWhole)
  (arg2 : Memref sig .tc .vmem S32x512 .f32) (harg2 : arg2.IsWhole) (arg3 : Memref sig .tc .vmem S128x512 .f32) (harg3 : arg3.IsWhole)
  (arg4 : Memref sig .tc .vmem S1x512 .f32) (harg4 : arg4.IsWhole)

/-- The first loop's region over the kernel's buffers. -/
abbrev body1 : Fin k0_t1_loop.trips → FVec F S128x1024 .f32 × FVec F S128x1024 .f32 →
    Prog (TpuEff nD τ sig (Elt F) Λ₀ .tc) (FVec F S128x1024 .f32 × FVec F S128x1024 .f32) :=
  k0_t1_body arg0 harg0 arg1 harg1 arg2 harg2 arg3 harg3 arg4 harg4 outM (Memref.isWhole_whole _) scrM (Memref.isWhole_whole _) cc0_scratch1
    emb wk b wr

/-- Before trip `k` of the first loop. -/
def issueAt (f0 : Buf (Elt F) (arg0.view.loc (c : Thread nD τ))) (k : ℕ) (acc : FVec F S128x1024 .f32 × FVec F S128x1024 .f32) : sProp 𝕄 :=
  iprop(⌜acc = stAt ids emb wk b wr k⌝ ∗ (arg0.view.loc (c : Thread nD τ) ↦[arg0.view.set]{fullShare} f0)
    ∗ batch c ids emb wk b wr (k - 10) 0 ∗ slotsFrom (F := F) c (k - 10) ∗ winsFrom (F := F) c (k - 10))

/-- The ids' row, loaded. -/
theorem row_read (f0 : Buf (Elt F) (arg0.view.loc (c : Thread nD τ))) (hf0 : arg0.view.read (Elt F) f0 = ids) (k : Fin k0_t1_loop.trips) :
    arg0.view.readAt (Elt F) (Rect.unit (s := S50x1024) (k0_off1 k) S1x1024.size (k0_off1_inb k)).toLoadRect f0 = rowAt ids k := by
  unfold rowAt; rw [← hf0]; rfl

/-- A trip before the tenth only computes. -/
theorem step_quiet (f0 : Buf (Elt F) (arg0.view.loc (c : Thread nD τ))) (hf0 : arg0.view.read (Elt F) f0 = ids)
    (k : Fin k0_t1_loop.trips) (hk : k.val < 10) (acc : FVec F S128x1024 .f32 × FVec F S128x1024 .f32) :
    issueAt c ids emb wk b wr arg0 f0 k acc
      ⊢ wp frame (wpE (defs₀ (F := F)) Variants.none (c : Thread nD τ) none) Set.univ
          (body1 emb wk b wr arg0 harg0 arg1 harg1 arg2 harg2 arg3 harg3 arg4 harg4 k acc)
          (issueAt c ids emb wk b wr arg0 f0 (k.val + 1)) := by
  have hc : ¬ k0_cond1 k = 1#1 := fun h => absurd ((cond1_iff k).mp h) (by omega)
  unfold issueAt
  iintro ⟨%hacc, H0, HB, HS, HW⟩
  subst hacc
  dsimp only [body1]
  unfold k0_t1_body
  dsimp only
  sl_exec
  sl_step
  isplitr
  · ipureintro; rw [stAt_succ, row_read c ids arg0 f0 hf0 k]
  rw [show k.val + 1 - 10 = k.val - 10 by omega]
  isplitl [H0]; · iexact H0
  isplitl [HB]; · iexact HB
  isplitl [HS]; · iexact HS
  iexact HW

/-- A slice of a memref, squeezed, read after an unmasked store at the slice's rectangle: the payload, shape-cast. -/
theorem read_squeeze_stored {Val : EltTy → Type} {κ : Kind} {sp : Space} {s s' : Shape} {e : EltTy} (M : Memref sig κ sp s e)
    (r : Rect s) (hr : ∀ a, r.stride a = 1) (hq : r.shape.Squeezes s') (hc : r.shape.ShapeCasts s') (f : (M.access r).ty.Contents Val)
    (w : r.shape.Idx → Val e) :
    ((M.slice r hr).squeeze s' hq).view.read Val ((M.access r).write Val f w Finset.univ) = shapeCast s' w hc :=
  congrArg (fun x => shapeCast s' x hc) (View.read_write_univ (v := M.access r) f w)

/-- A slot just stored over with what step `t` is to hold, and the copy of it landed in step `t`: the copy's delivery. -/
theorem lands (t : Fin 40) (w : FVec F S1x1024x128 .f32)
    (hw : shapeCast S1024x128 w (show S1x1024x128.ShapeCasts S1024x128 by decide) = kept ids emb wk b wr t)
    (g : Buf (Elt F) ((scrM.access (rSlot t)).loc (c : Thread nD τ))) (gw : Buf (Elt F) ((win t).view.loc (c : Thread nD τ))) :
    iprop(((win t).view.loc (c : Thread nD τ) ↦[(win t).view.set]{fullShare} ((win t).view.write (Elt F) gw
          (ReadAs.same.apply ((slot t).view.read (Elt F) ((scrM.access (rSlot t)).write (Elt F) g w Finset.univ))) Finset.univ))
        ∗ ((slot t).view.loc (c : Thread nD τ) ↦[(slot t).view.set]{fullShare} ((scrM.access (rSlot t)).write (Elt F) g w Finset.univ)))
      ⊢ (dlv c ids emb wk b wr t : sProp 𝕄) := by
  have hs : (slot t).view.read (Elt F) ((scrM.access (rSlot t)).write (Elt F) g w Finset.univ) = kept ids emb wk b wr t := by
    rw [← hw]
    exact read_squeeze_stored (Val := Elt F) scrM (rSlot t) (fun _ => rfl) squeezes_S1x1024x128_S1024x128
      (show S1x1024x128.ShapeCasts S1024x128 by decide) g w
  rw [hs]
  unfold dlv landed ownSlot
  rw [pointsTo_rep (Ix := Unit) (Name := ℕ) (U := Pipeline.UD sig nD τ) (Lvl := ℕ) (c : Thread nD τ) (win t) (outBuf c ids emb wk b wr t),
    pointsTo_rep (Ix := Unit) (Name := ℕ) (U := Pipeline.UD sig nD τ) (Lvl := ℕ) (c : Thread nD τ) (win t) ((win t).view.write (Elt F) gw _ Finset.univ),
    View.read_write_univ, show (win t).view.read (Elt F) (outBuf c ids emb wk b wr t) = kept ids emb wk b wr t from win_read ids emb wk b wr t]
  iintro ⟨HW, HS⟩
  isplitl [HW]; · iexact HW
  iexists _
  iexact HS

/-- The tail of a copying trip at slot `t`: the slot read, stored over, and its copy started. -/
theorem copy_tail (t : Fin 40) {o2 o3 o4 : Fin 3 → ℕ} (h2 : o2 = ![t.val, 0, 0]) (h3 : o3 = ![0, t.val, 0]) (h4 : o4 = ![t.val, 0, 0])
    (i2 : ∀ a, o2 a + S1x1024x128.size a ≤ S40x1024x128.size a) (i3 : ∀ a, o3 a + S1024x1x128.size a ≤ S1024x40x128.size a)
    (i4 : ∀ a, o4 a + S1x1024x128.size a ≤ S40x1024x128.size a) (w : FVec F S1x1024x128 .f32)
    (hw : shapeCast S1024x128 w (show S1x1024x128.ShapeCasts S1024x128 by decide) = kept ids emb wk b wr t)
    {α : Type} (r : α) (Q : α → sProp 𝕄) {hl hs hm hx hy hz} :
    iprop(ownSlot (F := F) c t ∗ ownWin (F := F) c t ∗ batch c ids emb wk b wr t.val 0 ∗ (batch c ids emb wk b wr (t.val + 1) 0 -∗ Q r))
      ⊢ wp frame (wpE (defs₀ (F := F)) Variants.none (c : Thread nD τ) none) Set.univ
          (Prog.op (TpuEff.load scrM (Rect.unit (s := S40x1024x128) o2 S1x1024x128.size i2).toLoadRect hl) fun _ => do
            Prog.lift (TpuEff.store scrM (Rect.unit (s := S40x1024x128) o2 S1x1024x128.size i2) w Finset.univ hs hm)
            Prog.lift (TpuEff.enqueueDma
              ((scrM.slice (Rect.unit (s := S40x1024x128) o4 S1x1024x128.size i4) (fun _ => rfl)).squeeze S1024x128 squeezes_S1x1024x128_S1024x128)
              (DmaTarget.here ((outM.slice (Rect.unit (s := S1024x40x128) o3 S1024x1x128.size i3) (fun _ => rfl)).squeeze S1024x128
                squeezes_S1024x1x128_S1024x128))
              (SemLoc.dma (SemArray.sem cc0_scratch1)) hx hy hz)
            Pure.pure r) Q := by
  subst h2 h3 h4
  have hset : (scrM.access (rSlot t)).set = (slot t).view.set := by
    unfold slot; exact (View.set_reshape _ _).symm
  unfold ownSlot ownWin
  iintro ⟨⟨%g, HS⟩, ⟨%gw, HW⟩, HB, HK⟩
  iapply (wp_load_rect (c := (c : Thread nD τ)) Variants.none none Set.univ (m := scrM) (r := rSlot t) (S := (slot t).view.set) (f := g) hset.le) $$ [HS]
  · iexact HS
  iintro HS
  iapply (wp_store (c := (c : Thread nD τ)) Variants.none none Set.univ (m := scrM) (r := rSlot t) (S := (slot t).view.set) (f := g) hset.le) $$ [HS]
  · iexact HS
  iintro HS
  iapply (Transfers.wp_dmaBatch (countersEmb (U := Pipeline.UD sig nD τ)) Variants.none (c : Thread nD τ) none (src := slot t) (dst := win t) () N
    (win_amount t) subset_rfl (D := dlv c ids emb wk b wr) (j := t.val) (u := 0) t.isLt (Nat.zero_le _) ?_) $$ [HS HW HB]
  · exact lands c ids emb wk b wr t w hw g gw
  · isplitl [HS]; · iexact HS
    isplitl [HW]; · iexact HW
    iexact HB
  iintro HB
  iapply (le_wp_ret (E := Set.univ))
  iapply HK $$ HB

/-- A trip from the tenth on also stores its slot and starts the slot's copy. -/
theorem step_copy (f0 : Buf (Elt F) (arg0.view.loc (c : Thread nD τ))) (hf0 : arg0.view.read (Elt F) f0 = ids)
    (k : Fin k0_t1_loop.trips) (hk : 10 ≤ k.val) (acc : FVec F S128x1024 .f32 × FVec F S128x1024 .f32) :
    issueAt c ids emb wk b wr arg0 f0 k acc
      ⊢ wp frame (wpE (defs₀ (F := F)) Variants.none (c : Thread nD τ) none) Set.univ
          (body1 emb wk b wr arg0 harg0 arg1 harg1 arg2 harg2 arg3 harg3 arg4 harg4 k acc)
          (issueAt c ids emb wk b wr arg0 f0 (k.val + 1)) := by
  have hc : k0_cond1 k = 1#1 := (cond1_iff k).mpr hk
  have hk50 : k.val < 50 := trips1 ▸ k.isLt
  obtain ⟨t, ht⟩ : ∃ t : Fin 40, t.val = k.val - 10 := ⟨⟨k.val - 10, by omega⟩, rfl⟩
  unfold issueAt
  rw [show k.val + 1 - 10 = k.val - 10 + 1 by omega, ← ht]
  unfold slotsFrom winsFrom
  rw [Ring.bigSep_rangeSet_head (Φ := ownSlot (F := F) c) t.isLt t.isLt, Ring.bigSep_rangeSet_head (Φ := ownWin (F := F) c) t.isLt t.isLt]
  iintro ⟨%hacc, H0, HB, ⟨HS, HSs⟩, ⟨HW, HWs⟩⟩
  subst hacc
  dsimp only [body1]
  unfold k0_t1_body
  dsimp only
  sl_exec
  rw [row_read c ids arg0 f0 hf0 k]
  iapply (copy_tail c ids emb wk b wr t ((off2_eq k hk).trans (by rw [ht])) ((off3_eq k hk).trans (by rw [ht])) ((off4_eq k hk).trans (by rw [ht]))
    _ _ _ _ (pay5_kept ids emb wk b wr k t (by omega)) _ _)
  isplitl [HS]; · iexact HS
  isplitl [HW]; · iexact HW
  isplitl [HB]; · iexact HB
  iintro HB
  isplitr
  · ipureintro; rw [stAt_succ]
  isplitl [H0]; · iexact H0
  isplitl [HB]; · iexact HB
  isplitl [HSs]; · iexact HSs
  iexact HWs

/-- One trip of the first loop. -/
theorem step (f0 : Buf (Elt F) (arg0.view.loc (c : Thread nD τ))) (hf0 : arg0.view.read (Elt F) f0 = ids)
    (k : Fin k0_t1_loop.trips) (acc : FVec F S128x1024 .f32 × FVec F S128x1024 .f32) :
    issueAt c ids emb wk b wr arg0 f0 k acc
      ⊢ wp frame (wpE (defs₀ (F := F)) Variants.none (c : Thread nD τ) none) Set.univ
          (body1 emb wk b wr arg0 harg0 arg1 harg1 arg2 harg2 arg3 harg3 arg4 harg4 k acc)
          (issueAt c ids emb wk b wr arg0 f0 (k.val + 1)) := by
  rcases Nat.lt_or_ge k.val 10 with hk | hk
  · exact step_quiet c ids emb wk b wr arg0 harg0 arg1 harg1 arg2 harg2 arg3 harg3 arg4 harg4 f0 hf0 k hk acc
  · exact step_copy c ids emb wk b wr arg0 harg0 arg1 harg1 arg2 harg2 arg3 harg3 arg4 harg4 f0 hf0 k hk acc

end Cert.KernelIdeal.Hand

end
-- ==== Proof.KernelIdeal.Body.lean ====
/-
  The second loop, and the kernel's whole body: what it leaves in the result.

  The second loop waits forty times for one copy's units, so that after it every copy has landed. The body then has the
  result whole at `outArr`, the scratch buffer whole at some contents, and the cell back at zero (`run`).
-/
module

public import proofs.«01_k».proof.Proof.KernelIdeal.Issue

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (ids : Vec F S50x1024 .i32) (emb : Vec F S5x32 .f32) (wk : Vec F S32x512 .f32) (b : Vec F S1x512 .f32)
  (wr : Vec F S128x512 .f32)

variable (arg0 : Memref sig .tc .vmem S50x1024 .i32) (harg0 : arg0.IsWhole) (arg1 : Memref sig .tc .vmem S5x32 .f32) (harg1 : arg1.IsWhole)
  (arg2 : Memref sig .tc .vmem S32x512 .f32) (harg2 : arg2.IsWhole) (arg3 : Memref sig .tc .vmem S128x512 .f32) (harg3 : arg3.IsWhole)
  (arg4 : Memref sig .tc .vmem S1x512 .f32) (harg4 : arg4.IsWhole)

/-- The second loop's region over the kernel's buffers. -/
abbrev body2 : Fin k0_t2_loop.trips → Unit → Prog (TpuEff nD τ sig (Elt F) Λ₀ .tc) Unit :=
  k0_t2_body arg0 harg0 arg1 harg1 arg2 harg2 arg3 harg3 arg4 harg4 outM (Memref.isWhole_whole _) scrM (Memref.isWhole_whole _) cc0_scratch1

/-- Before trip `k` of the second loop: `k` copies' units consumed, or, after the last, every delivery in hand. -/
def drainAt (k : ℕ) (_ : Unit) : sProp 𝕄 :=
  iprop(⌜k ≤ 40⌝ ∗ (∃ W, owes (c : Thread nD τ) 0 W)
    ∗ (if k < 40 then batch c ids emb wk b wr 40 (k * N)
       else iprop(semVal ((c : Thread nD τ), SemLoc.dma 5) 0 ∗ bigSep Finset.univ (dlv c ids emb wk b wr))))

theorem drain_step (k : Fin k0_t2_loop.trips) (acc : Unit) :
    drainAt c ids emb wk b wr k acc
      ⊢ wp frame (wpE (defs₀ (F := F)) Variants.none (c : Thread nD τ) none) Set.univ
          (body2 arg0 harg0 arg1 harg1 arg2 harg2 arg3 harg3 arg4 harg4 k acc) (drainAt c ids emb wk b wr (k.val + 1)) := by
  have hk : k.val < 40 := trips2 ▸ k.isLt
  unfold drainAt
  simp only [if_pos hk]
  rcases Nat.lt_or_ge (k.val + 1) 40 with h1 | h1
  · simp only [if_pos h1]
    iintro ⟨-, ⟨%W, HO⟩, HB⟩
    dsimp only [body2]
    unfold k0_t2_body
    dsimp only
    sl_exec
    sl_step
    isplitr; · ipureintro; omega
    isplitl [HO]; · iexists _; iexact HO
    rw [show (k.val + 1) * N = k.val * N + N by simp only [N]; omega]
    iexact HB
  · simp only [if_neg (Nat.not_lt.mpr h1)]
    iintro ⟨-, ⟨%W, HO⟩, HB⟩
    dsimp only [body2]
    unfold k0_t2_body
    dsimp only
    sl_exec
    sl_step
    isplitr; · ipureintro; omega
    isplitl [HO]; · iexists _; iexact HO
    isplitl [HB]; · iexact HB
    iexact HB_all

/-! ## The arrays as their slots and steps, and back -/

/-- The scratch buffer, whole, at some contents; the result, whole. -/
abbrev scrSome : sProp 𝕄 := iprop(∃ f, scrM.view.loc (c : Thread nD τ) ↦{fullShare} f)
abbrev outAt (f : S1024x40x128.Idx → Elt F .f32) : sProp 𝕄 := outM.view.loc (c : Thread nD τ) ↦{fullShare} f

theorem scr_split : scrSome (F := F) c ⊢ slotsFrom (F := F) c 0 := by
  unfold slotsFrom
  rw [Ring.rangeSet_univ]
  iintro ⟨%f, H⟩
  iapply ((Entails.of_eq (Ring.pointsTo_blocks (ℓ := scrM.view.loc (c : Thread nD τ)) (q := fullShare) slotSet slotSet_disjoint slotSet_cover f)).trans
    (BI.bigSep_mono fun t _ => ?_)) $$ H
  show (scrM.view.loc (c : Thread nD τ) ↦[slotSet t]{fullShare} f : sProp 𝕄) ⊢ ownSlot c t
  unfold ownSlot; rw [slot_set]; iintro H; iexists f; iexact H
theorem out_split (f : S1024x40x128.Idx → Elt F .f32) : outAt c f ⊢ winsFrom (F := F) c 0 := by
  unfold winsFrom
  rw [Ring.rangeSet_univ]
  refine (Entails.of_eq (Ring.pointsTo_blocks (ℓ := outM.view.loc (c : Thread nD τ)) (q := fullShare) winSet winSet_disjoint winSet_cover f)).trans
    (BI.bigSep_mono fun t _ => ?_)
  show (outM.view.loc (c : Thread nD τ) ↦[winSet t]{fullShare} f : sProp 𝕄) ⊢ ownWin c t
  unfold ownWin; rw [win_set]; iintro H; iexists f; iexact H
/-- The forty deliveries: the result whole at `outArr`, the scratch buffer whole. -/
theorem join : bigSep Finset.univ (dlv c ids emb wk b wr) ⊢ (iprop(outAt c (outArr ids emb wk b wr) ∗ scrSome (F := F) c) : sProp 𝕄) := by
  have e : bigSep Finset.univ (dlv c ids emb wk b wr)
      = (iprop(bigSep Finset.univ (landed c ids emb wk b wr) ∗ bigSep Finset.univ (ownSlot (F := F) c)) : sProp 𝕄) := by
    unfold dlv; exact BI.bigSep_sep _ _ _
  rw [e]
  refine BI.sep_mono ?_ ?_
  · refine BI.Entails.trans (BI.bigSep_mono fun t _ => ?_)
      (Entails.of_eq (Ring.pointsTo_blocks (ℓ := outM.view.loc (c : Thread nD τ)) (q := fullShare) winSet winSet_disjoint winSet_cover
        (outArr ids emb wk b wr)).symm)
    show landed c ids emb wk b wr t ⊢ (outM.view.loc (c : Thread nD τ) ↦[winSet t]{fullShare} outArr ids emb wk b wr : sProp 𝕄)
    unfold landed; rw [win_set]; exact .rfl
  · refine BI.Entails.trans (BI.bigSep_mono fun t _ => ?_)
      (Ring.pointsTo_blocks_join_exists (ℓ := scrM.view.loc (c : Thread nD τ)) (q := fullShare) slotSet slotSet_disjoint slotSet_cover scrM.view.junk)
    show ownSlot c t ⊢ (iprop(∃ f, scrM.view.loc (c : Thread nD τ) ↦[slotSet t]{fullShare} f) : sProp 𝕄)
    unfold ownSlot; rw [slot_set]; exact .rfl

/-! ## The whole body -/

/-- From the five staged blocks, the scratch buffer and the result at any contents, and the cell at zero, the kernel's
    body runs to the result at `outArr` of the blocks, the blocks as they were and the cell at zero. -/
theorem run (f : S1024x40x128.Idx → Elt F .f32) (W : Waits sig Unit) (K : PUnit → sProp 𝕄) :
    iprop(owns (c : Thread nD τ) arg0 fullShare ids ∗ owns (c : Thread nD τ) arg1 fullShare emb ∗ owns (c : Thread nD τ) arg2 fullShare wk
      ∗ owns (c : Thread nD τ) arg3 fullShare wr ∗ owns (c : Thread nD τ) arg4 fullShare b ∗ scrSome (F := F) c ∗ outAt c f
      ∗ semVal ((c : Thread nD τ), SemLoc.dma 5) 0 ∗ owes (c : Thread nD τ) 0 W
      ∗ (iprop(owns (c : Thread nD τ) arg0 fullShare ids ∗ owns (c : Thread nD τ) arg1 fullShare emb ∗ owns (c : Thread nD τ) arg2 fullShare wk
          ∗ owns (c : Thread nD τ) arg3 fullShare wr ∗ owns (c : Thread nD τ) arg4 fullShare b ∗ scrSome (F := F) c
          ∗ outAt c (outArr ids emb wk b wr) ∗ semVal ((c : Thread nD τ), SemLoc.dma 5) 0 ∗ (∃ W, owes (c : Thread nD τ) 0 W)) -∗ K ⟨⟩))
      ⊢ wp frame (wpE (defs₀ (F := F)) Variants.none (c : Thread nD τ) none) Set.univ
          (cc0__lstm_kernel arg0 harg0 arg1 harg1 arg2 harg2 arg3 harg3 arg4 harg4 outM (Memref.isWhole_whole _) scrM (Memref.isWhole_whole _)
            cc0_scratch1) K := by
  unfold owns
  iintro ⟨⟨%f0, %hf0, H0⟩, ⟨%f1, %hf1, H1⟩, ⟨%f2, %hf2, H2⟩, ⟨%f3, %hf3, H3⟩, ⟨%f4, %hf4, H4⟩, HS, HW, Hc, HO, HK⟩
  ihave HS := (scr_split (F := F) c) $$ HS
  ihave HW := (out_split (F := F) c f) $$ HW
  imod (Transfers.batch_alloc' (Lvl := ℕ) (countersEmb (U := Pipeline.UD sig nD τ)) (c : Thread nD τ) () N (dlv c ids emb wk b wr)
    (sm := SemLoc.dma 5) (E := Set.univ)) $$ Hc with HB
  rw [cc0__lstm_kernel_eq_skeleton]
  sl_unfold [cc0__lstm_kernel_skel]
  sl_exec
  rw [View.readAt_full, View.readAt_full, View.readAt_full, View.readAt_full, hf1, hf2, hf3, hf4]
  -- the first loop
  sl_for (issueAt c ids emb wk b wr arg0 f0) $$ [H0 HB HS HW]
  · intro k acc; exact step c ids emb wk b wr arg0 harg0 arg1 harg1 arg2 harg2 arg3 harg3 arg4 harg4 f0 hf0 k acc
  · unfold issueAt
    isplitr; · ipureintro; rfl
    isplitl [H0]; · iexact H0
    isplitl [HB]; · iexact HB
    isplitl [HS]; · iexact HS
    iexact HW
  iintro %acc HL
  unfold issueAt
  rw [show k0_t1_loop.trips - 10 = 40 by rw [trips1]]
  icases HL with ⟨-, H0, HB, -, -⟩
  obtain ⟨a1, a2⟩ := acc
  sl_exec
  -- the second loop
  sl_for (drainAt c ids emb wk b wr) $$ [HB HO]
  · intro k acc; exact drain_step c ids emb wk b wr arg0 harg0 arg1 harg1 arg2 harg2 arg3 harg3 arg4 harg4 k acc
  · unfold drainAt
    rw [if_pos (by decide)]
    isplitr; · ipureintro; omega
    isplitl [HO]; · iexists _; iexact HO
    rw [Nat.zero_mul]
    iexact HB
  iintro %acc HL
  unfold drainAt
  rw [if_neg (show ¬ k0_t2_loop.trips < 40 by rw [trips2]; decide)]
  icases HL with ⟨-, HO, Hc, HD⟩
  ihave HD := (join c ids emb wk b wr) $$ HD
  icases HD with ⟨HW, HS⟩
  sl_step
  iapply HK
  isplitl [H0]; · iexists f0; isplitr; · (ipureintro; exact hf0)
                  iexact H0
  isplitl [H1]; · iexists f1; isplitr; · (ipureintro; exact hf1)
                  iexact H1
  isplitl [H2]; · iexists f2; isplitr; · (ipureintro; exact hf2)
                  iexact H2
  isplitl [H3]; · iexists f3; isplitr; · (ipureintro; exact hf3)
                  iexact H3
  isplitl [H4]; · iexists f4; isplitr; · (ipureintro; exact hf4)
                  iexact H4
  isplitl [HS]; · iexact HS
  isplitl [HW]; · iexact HW
  isplitl [Hc]; · iexact Hc
  iexact HO

end Cert.KernelIdeal.Hand

end
-- ==== Proof.KernelIdeal.Run.lean ====
/-
  The kernel program's run: its one region entered after the host's transpose and reshape, the body at the one grid
  point, and what the program leaves — its arguments as they were, every cell at zero, its result at `outArr` of the
  five staged blocks.
-/
module

public import proofs.«01_k».proof.Proof.Gen.KernelIdeal.Frame
public import proofs.«01_k».proof.Proof.KernelIdeal.Body
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cell and the result it writes itself -/

abbrev osem0 : Fin 1 → SemLoc sig := fun j => (![SemLoc.dma 5] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0) := by
  rw [Pipeline.ownSems0_eq_of_list c osem0 [0] (by decide) (by decide)]; rfl

def H0 : Finset (Ref sig .tc) := ∅
theorem H0_sub : H0 ⊆ Pipeline.restRefs sig spec0 := by decide
def R0 : Finset (Ref sig .tc) := {main_v2}
theorem R0_sub : R0 ⊆ Pipeline.restRefs sig spec0 \ H0 := by decide

/-- The five blocks the body finds staged at point `t`. -/
def blkIds (c : Dev nD) (t : Fin cfg0.N) : Vec F S50x1024 .i32 := iblk m c 0 t
def blkEmb (c : Dev nD) (t : Fin cfg0.N) : Vec F S5x32 .f32 := iblk m c 1 t
def blkW (c : Dev nD) (t : Fin cfg0.N) : Vec F S32x512 .f32 := iblk m c 2 t
def blkRec (c : Dev nD) (t : Fin cfg0.N) : Vec F S128x512 .f32 := iblk m c 3 t
def blkBias (c : Dev nD) (t : Fin cfg0.N) : Vec F S1x512 .f32 := iblk m c 4 t

/-- What the body leaves in the result. -/
def outOf (c : Dev nD) (t : Fin cfg0.N) : S1024x40x128.Idx → Elt F .f32 :=
  outArr (blkIds m c t) (blkEmb m c t) (blkW m c t) (blkBias m c t) (blkRec m c t)

/-- The written buffers' contents after the body. -/
def G (c : Dev nD) (b : Ref sig .tc) : Buf (Elt F) ((c : Thread nD τ).loc b) :=
  Function.update (V m c) main_v2 (outOf m c t0_0 : Buf (Elt F) ((c : Thread nD τ).loc main_v2)) b

theorem G_v2 (c : Dev nD) : G m c main_v2 = outOf m c t0_0 := by unfold G; exact Function.update_self _ _ _

theorem phi_eq (c : Dev nD) (W : (c : Dev nD) → (b : Ref sig .tc) → Buf (Elt F) ((c : Thread nD τ).loc b)) :
    (Pipeline.ΦDRG osem0 spec0 H0 R0 (V m) W c : sProp 𝕄)
      = iprop(scrSome (F := F) c ∗ (∃ r, prngReg c r) ∗ semVal ((c : Thread nD τ), SemLoc.dma 5) 0 ∗ emp ∗ outAt c (W c main_v2)) := by
  rw [Pipeline.ΦDRG_eq, scopedRest0_eq, ownSems00_eq]
  unfold H0 R0 Pipeline.routed
  rw [BI.bigSep_empty, BI.bigSep_singleton]
  rfl

/-- The proof data of the one pipeline on core `c`: every staged block left as found, and the result at its entry
    contents before the point, at the body's after it. -/
def dats (_ : Fin 1) (c : Dev nD) : Dat τ (Elt F) Unit ℕ (Pipeline.UD sig nD τ) ℕ cfg0 c where
  A w := V m c (Pipeline.arrRef spec0 w)
  after w t := match w with
    | ⟨0, _⟩ => blkIds m c t
    | ⟨1, _⟩ => blkEmb m c t
    | ⟨2, _⟩ => blkW m c t
    | ⟨3, _⟩ => blkRec m c t
    | ⟨4, _⟩ => blkBias m c t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by dsimp only [dats]
theorem after0_eq (c : Dev nD) (t : Fin cfg0.N) : (dats m 0 c).after 0 t = blkIds m c t := by dsimp only [dats]
theorem after1_eq (c : Dev nD) (t : Fin cfg0.N) : (dats m 0 c).after 1 t = blkEmb m c t := by dsimp only [dats]
theorem after2_eq (c : Dev nD) (t : Fin cfg0.N) : (dats m 0 c).after 2 t = blkW m c t := by dsimp only [dats]
theorem after3_eq (c : Dev nD) (t : Fin cfg0.N) : (dats m 0 c).after 3 t = blkRec m c t := by dsimp only [dats]
theorem after4_eq (c : Dev nD) (t : Fin cfg0.N) : (dats m 0 c).after 4 t = blkBias m c t := by dsimp only [dats]

theorem before0_of (c : Dev nD) (t : Fin cfg0.N) (d) : (dats m 0 c).before 0 t d = blkIds m c t :=
  ((dats m 0 c).before_in_eq_fetched 0 rfl (fun _ => rfl) (fun _ _ _ => rfl) (fun t => by rw [after0_eq]; rfl) t d).trans rfl
theorem before1_of (c : Dev nD) (t : Fin cfg0.N) (d) : (dats m 0 c).before 1 t d = blkEmb m c t :=
  ((dats m 0 c).before_in_eq_fetched 1 rfl (fun _ => rfl) (fun _ _ _ => rfl) (fun t => by rw [after1_eq]; rfl) t d).trans rfl
theorem before2_of (c : Dev nD) (t : Fin cfg0.N) (d) : (dats m 0 c).before 2 t d = blkW m c t :=
  ((dats m 0 c).before_in_eq_fetched 2 rfl (fun _ => rfl) (fun _ _ _ => rfl) (fun t => by rw [after2_eq]; rfl) t d).trans rfl
theorem before3_of (c : Dev nD) (t : Fin cfg0.N) (d) : (dats m 0 c).before 3 t d = blkRec m c t :=
  ((dats m 0 c).before_in_eq_fetched 3 rfl (fun _ => rfl) (fun _ _ _ => rfl) (fun t => by rw [after3_eq]; rfl) t d).trans rfl
theorem before4_of (c : Dev nD) (t : Fin cfg0.N) (d) : (dats m 0 c).before 4 t d = blkBias m c t :=
  ((dats m 0 c).before_in_eq_fetched 4 rfl (fun _ => rfl) (fun _ _ _ => rfl) (fun t => by rw [after4_eq]; rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0_of, before1_of, before2_of, before3_of, before4_of]
  rw [after0_eq, after1_eq, after2_eq, after3_eq, after4_eq]
  rw [show (dats m 0 c).Φ (Fin.castSucc t0_0) = Pipeline.ΦDRG osem0 spec0 H0 R0 (V m) (V m) c from rfl,
    show (dats m 0 c).Φ (Fin.succ t0_0) = Pipeline.ΦDRG osem0 spec0 H0 R0 (V m) (G m) c from rfl, phi_eq, phi_eq]
  unfold Dat.owesAt Pipeline.owesWithin
  rw [show (dats m 0 c).owed (Fin.castSucc t0_0) = 0 from rfl, show (dats m 0 c).owed (Fin.succ t0_0) = 0 from rfl]
  iintro ⟨⟨HS, Hg, Hc, He, HR⟩, ⟨%W, -, HW⟩, ⟨%d0, H0⟩, ⟨%d1, H1⟩, ⟨%d2, H2⟩, ⟨%d3, H3⟩, ⟨%d4, H4⟩⟩
  iapply (run c (blkIds m c t0_0) (blkEmb m c t0_0) (blkW m c t0_0) (blkBias m c t0_0) (blkRec m c t0_0) _ _ _ _ _ _ _ _ _ _ _ W _)
  isplitl [H0]; · iexact H0
  isplitl [H1]; · iexact H1
  isplitl [H2]; · iexact H2
  isplitl [H3]; · iexact H3
  isplitl [H4]; · iexact H4
  isplitl [HS]; · iexact HS
  isplitl [HR]; · iexact HR
  isplitl [Hc]; · iexact Hc
  isplitl [HW]; · iexact HW
  iintro ⟨H0, H1, H2, H3, H4, HS, HR, Hc, ⟨%W', HW'⟩⟩
  isplitl [HS Hg Hc He HR]
  · isplitl [HS]; · iexact HS
    isplitl [Hg]; · iexact Hg
    isplitl [Hc]; · iexact Hc
    isplitl [He]; · iexact He
    rw [G_v2]
    iexact HR
  isplitl [HW']
  · iexists W'; isplitr; · (ipureintro; exact fun _ _ => Or.inl trivial)
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, and what it leaves -/

theorem hmain_UD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain_UD m Variants.none) (hA := A_eq m) (G := G m)
    (hin := fun _ => .rfl) (hout := fun _ => .rfl)

/-- The run in full: the arguments unchanged, the result at the body's value, every cell at zero. -/
theorem run_full : θ_run defs (onTc (τ := τ) (main (F := F))) ⟨m, fun _ => 0, ρ⟩ (fun r => (∀ c : Dev nD,
      r.2.mem ((c.tc : Thread nD τ).loc main_v2) = outOf m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c =>
    have h := hr.1.toR
    ⟨(hr.1.written c (b := main_v2) (by decide)).trans (G_v2 m c),
      ((h c).2 main_arg0 (Finset.mem_sdiff.mpr ⟨Pipeline.mem_restRefs_of main_arg0 (by decide) (by decide), by decide⟩)).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Finset.mem_sdiff.mpr ⟨Pipeline.mem_restRefs_of main_arg4 (by decide) (by decide), by decide⟩)).trans (V_main_arg4 m c)⟩,
    hr.2⟩) (run_main m ρ)

/-- The frame: the arguments unchanged, every cell at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_full m ρ)

end Cert.KernelIdeal.Hand

end
-- ==== Proof.KernelIdeal.Staged.lean ====
/-
  What the kernel finds staged: the ids transposed, the bias as one row, the table and the weights as launched.
-/
module

public import proofs.«01_k».proof.Proof.KernelIdeal.Run
public import Idealize.ShloMosaic.Lib.Pipeline.Value
public import Idealize.ShloMosaic.Lib.ValueLayout
public import Idealize.ShloMosaic.Lib.Scf.Counter

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable {F : FTy → Type} [FloatOps F] (m : (ℓ : Loc nD τ sig) → Buf (Elt F) ℓ) (c : Dev nD)

theorem V_ids : V m c main_v0 = transpose S50x1024 [1, 0] (m ((c : Thread nD τ).loc main_arg0)) transposes_S1024x50_S50x1024_1_0 := by
  show after hostOps0 _ (Proc.devRef .tc main_v0) = _
  after_results
theorem V_bias : V m c main_v1 = shapeCast S1x512 (m ((c : Thread nD τ).loc main_arg4)) shapeCasts_S512_S1x512 := by
  show after hostOps0 _ (Proc.devRef .tc main_v1) = _
  after_results
  rfl

/-! Each window holds its whole array: a block's entry is the array's entry of the same index. -/

theorem blkIds_eq : blkIds m c t0_0 = transpose S50x1024 [1, 0] (m ((c : Thread nD τ).loc main_arg0)) transposes_S1024x50_S50x1024_1_0 := by
  refine Eq.trans (funext fun y => ?_) (V_ids m c)
  show V m c main_v0 _ = V m c main_v0 _
  exact congrArg _ (funext fun a => Fin.ext (match a with
    | ⟨0, _⟩ => (by show 0 + 1 * _ = _; omega) | ⟨1, _⟩ => (by show 0 + 1 * _ = _; omega)))
theorem blkEmb_eq : blkEmb m c t0_0 = m ((c : Thread nD τ).loc main_arg1) := by
  refine Eq.trans (funext fun y => ?_) (V_main_arg1 m c)
  show V m c main_arg1 _ = V m c main_arg1 _
  exact congrArg _ (funext fun a => Fin.ext (match a with
    | ⟨0, _⟩ => (by show 0 + 1 * _ = _; omega) | ⟨1, _⟩ => (by show 0 + 1 * _ = _; omega)))
theorem blkW_eq : blkW m c t0_0 = m ((c : Thread nD τ).loc main_arg2) := by
  refine Eq.trans (funext fun y => ?_) (V_main_arg2 m c)
  show V m c main_arg2 _ = V m c main_arg2 _
  exact congrArg _ (funext fun a => Fin.ext (match a with
    | ⟨0, _⟩ => (by show 0 + 1 * _ = _; omega) | ⟨1, _⟩ => (by show 0 + 1 * _ = _; omega)))
theorem blkRec_eq : blkRec m c t0_0 = m ((c : Thread nD τ).loc main_arg3) := by
  refine Eq.trans (funext fun y => ?_) (V_main_arg3 m c)
  show V m c main_arg3 _ = V m c main_arg3 _
  exact congrArg _ (funext fun a => Fin.ext (match a with
    | ⟨0, _⟩ => (by show 0 + 1 * _ = _; omega) | ⟨1, _⟩ => (by show 0 + 1 * _ = _; omega)))
theorem blkBias_eq : blkBias m c t0_0 = shapeCast S1x512 (m ((c : Thread nD τ).loc main_arg4)) shapeCasts_S512_S1x512 := by
  refine Eq.trans (funext fun y => ?_) (V_bias m c)
  show V m c main_v1 _ = V m c main_v1 _
  exact congrArg _ (funext fun a => Fin.ext (match a with
    | ⟨0, _⟩ => (by show 0 + 1 * _ = _; omega) | ⟨1, _⟩ => (by show 0 + 1 * _ = _; omega)))

/-- The bias of lane `l`, and the id that trip `k` reads for batch row `i`. -/
theorem bias_apply (l : Fin 512) : blkBias m c t0_0 (ix2 (0 : Fin 1) l) = m ((c : Thread nD τ).loc main_arg4) (ix1 l) := by
  rw [blkBias_eq]
  exact shapeCast_a_1a_apply _ _ _ _
theorem rowAt_apply (ids : Vec F S50x1024 .i32) (k : Fin k0_t1_loop.trips) (i : Fin 1024) :
    rowAt ids k (ix2 (0 : Fin 1) i) = ids (ix2 (⟨k.val, k.isLt⟩ : Fin 50) i) := by
  have h0 : ∀ k : Fin k0_t1_loop.trips, k0_off1 k 0 = k.val := by decide +kernel
  have h1 : ∀ k : Fin k0_t1_loop.trips, k0_off1 k 1 = 0 := by decide +kernel
  show ids _ = ids _
  refine congrArg ids (funext fun a => Fin.ext ?_)
  match a with
  | ⟨0, _⟩ => show k0_off1 k 0 + 1 * 0 = k.val; rw [h0]; omega
  | ⟨1, _⟩ => show k0_off1 k 1 + 1 * i.val = i.val; rw [h1]; omega
theorem row_apply (k : Fin k0_t1_loop.trips) (i : Fin 1024) :
    rowAt (blkIds m c t0_0) k (ix2 (0 : Fin 1) i) = m ((c : Thread nD τ).loc main_arg0) (ix2 i (⟨k.val, k.isLt⟩ : Fin 50)) := by
  rw [rowAt_apply, blkIds_eq]
  exact transpose_ix2_apply _ transposes_S1024x50_S50x1024_1_0 (⟨k.val, k.isLt⟩ : Fin 50) i

end Cert.KernelIdeal.Hand

end
-- ==== Proof.Reference.Ops.lean ====
/-
  The reference program as lists of its operations: what runs before the first loop, each loop's condition and body,
  what runs between the loops and after them. The functions it calls are written out at the call. For each list: it
  touches the device's references only, and the references it writes, in order.
-/
module

public import proofs.«01_k».proof.Proof.Gen.ReferenceIdeal
public import Idealize.ShloMosaic.Lib.StableHlo.RunLoop

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo

variable {F : FTy → Type} [FloatOps F]

/-- The lookup of the table's rows: the called function's operations. -/
abbrev takeOps : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1024x50, .i32⟩) (broadcastInDim S1024x50 ![] bcast_S_S1024x50),
    StableHlo.TRef.binary (.of main_arg0 : StableHlo.TRef sig ⟨S1024x50, .i32⟩) (.of main_call0_v0 : StableHlo.TRef sig ⟨S1024x50, .i32⟩) (.of main_call0_v1 : StableHlo.TRef sig ⟨S1024x50, .i1⟩) (cmpi .slt),
    StableHlo.TRef.nullary (.of main_call0_c_0 : StableHlo.TRef sig ⟨S_, .i32⟩) (constantI S_ 32 5#32),
    StableHlo.TRef.unary (.of main_call0_c_0 : StableHlo.TRef sig ⟨S_, .i32⟩) (.of main_call0_v2 : StableHlo.TRef sig ⟨S1024x50, .i32⟩) (broadcastInDim S1024x50 ![] bcast_S_S1024x50),
    StableHlo.TRef.binary (.of main_arg0 : StableHlo.TRef sig ⟨S1024x50, .i32⟩) (.of main_call0_v2 : StableHlo.TRef sig ⟨S1024x50, .i32⟩) (.of main_call0_v3 : StableHlo.TRef sig ⟨S1024x50, .i32⟩) addi,
    StableHlo.TRef.ternary (.of main_call0_v1 : StableHlo.TRef sig ⟨S1024x50, .i1⟩) (.of main_call0_v3 : StableHlo.TRef sig ⟨S1024x50, .i32⟩) (.of main_arg0 : StableHlo.TRef sig ⟨S1024x50, .i32⟩) (.of main_call0_v4 : StableHlo.TRef sig ⟨S1024x50, .i32⟩) select,
    StableHlo.TRef.unary (.of main_call0_v4 : StableHlo.TRef sig ⟨S1024x50, .i32⟩) (.of main_call0_v5 : StableHlo.TRef sig ⟨S1024x50x1, .i32⟩) (broadcastInDim S1024x50x1 ![0, 1] bcast_S1024x50_S1024x50x1_0_1),
    StableHlo.TRef.nullary (.of main_call0_c_1 : StableHlo.TRef sig ⟨S1, .i32⟩) (constantI S1 32 4#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1024x50x1, .i32⟩) (broadcastInDim S1024x50x1 ![] bcast_S_S1024x50x1),
    StableHlo.TRef.binary (.of main_call0_v5 : StableHlo.TRef sig ⟨S1024x50x1, .i32⟩) (.of main_call0_v6 : StableHlo.TRef sig ⟨S1024x50x1, .i32⟩) (.of main_call0_v7 : StableHlo.TRef sig ⟨S1024x50x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S1024x50x1, .i32⟩) (broadcastInDim S1024x50x1 ![0, 1, 2] bcast_S1x1x1_S1024x50x1_0_1_2),
    StableHlo.TRef.binary (.of main_call0_v5 : StableHlo.TRef sig ⟨S1024x50x1, .i32⟩) (.of main_call0_v9 : StableHlo.TRef sig ⟨S1024x50x1, .i32⟩) (.of main_call0_v10 : StableHlo.TRef sig ⟨S1024x50x1, .i1⟩) (cmpi .sle),
    StableHlo.TRef.binary (.of main_call0_v7 : StableHlo.TRef sig ⟨S1024x50x1, .i1⟩) (.of main_call0_v10 : StableHlo.TRef sig ⟨S1024x50x1, .i1⟩) (.of main_call0_v11 : StableHlo.TRef sig ⟨S1024x50x1, .i1⟩) andi,
    StableHlo.TRef.nullary (.of main_call0_c_3 : StableHlo.TRef sig ⟨S_, .i1⟩) (constantI S_ 1 1#1),
    StableHlo.TRef.binary (.of main_call0_v11 : StableHlo.TRef sig ⟨S1024x50x1, .i1⟩) (.of main_call0_c_3 : StableHlo.TRef sig ⟨S_, .i1⟩) (.of main_call0_v12 : StableHlo.TRef sig ⟨S1024x50, .i1⟩) (fun x v => Host.reduce IntOp.andi x v reducesTo_S1024x50x1_S1024x50_d2 h_S_),
    StableHlo.TRef.binary (.of main_arg1 : StableHlo.TRef sig ⟨S5x32, .f32⟩) (.of main_call0_v5 : StableHlo.TRef sig ⟨S1024x50x1, .i32⟩) (.of main_call0_v13 : StableHlo.TRef sig ⟨S1024x50x32, .f32⟩) (fun x i => Host.gather gather_S5x32_S1024x50x1_S1024x50x32_2_0_n_n_0_2_132 x i),
    StableHlo.TRef.unary (.of main_call0_v12 : StableHlo.TRef sig ⟨S1024x50, .i1⟩) (.of main_call0_v14 : StableHlo.TRef sig ⟨S1024x50x32, .i1⟩) (broadcastInDim S1024x50x32 ![0, 1] bcast_S1024x50_S1024x50x32_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1024x50x32, .f32⟩) (broadcastInDim S1024x50x32 ![] bcast_S_S1024x50x32),
    StableHlo.TRef.ternary (.of main_call0_v14 : StableHlo.TRef sig ⟨S1024x50x32, .i1⟩) (.of main_call0_v13 : StableHlo.TRef sig ⟨S1024x50x32, .f32⟩) (.of main_call0_v15 : StableHlo.TRef sig ⟨S1024x50x32, .f32⟩) (.of main_v0 : StableHlo.TRef sig ⟨S1024x50x32, .f32⟩) select ]
theorem takeOps_sub : (takeOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev takeOps_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem takeOps_writes : (takeOps : List (HloOp τ sig (Elt F))).Forall fun op => op.writes ⊆ (takeOps_W.map (Proc.devRef (τ := τ) .tc)).toFinset :=
  StableHlo.forall_writes_sub_of_map rfl

/-- The transpose of the rows, the zero states, the first ten steps' rows, and the first loop's carried values. -/
abbrev startOps : List (HloOp τ sig (Elt F)) :=
  [ StableHlo.unary main_v0 main_v1 ((transpose S50x1024x32 [1, 0, 2] · transposes_S1024x50x32_S50x1024x32_1_0_2) : (⟨S1024x50x32, .f32⟩ : BufTy).Contents (Elt F) → (⟨S50x1024x32, .f32⟩ : BufTy).Contents (Elt F)),
    StableHlo.nullary main_cst (constant S_ .f32 0x00000000#32),
    StableHlo.unary main_cst main_v2 (broadcastInDim S1024x128 ![] bcast_S_S1024x128 : (⟨S_, .f32⟩ : BufTy).Contents (Elt F) → (⟨S1024x128, .f32⟩ : BufTy).Contents (Elt F)),
    StableHlo.nullary main_cst_0 (constant S_ .f32 0x00000000#32),
    StableHlo.unary main_cst_0 main_v3 (broadcastInDim S1024x128 ![] bcast_S_S1024x128 : (⟨S_, .f32⟩ : BufTy).Contents (Elt F) → (⟨S1024x128, .f32⟩ : BufTy).Contents (Elt F)),
    StableHlo.unary main_v1 main_v4 ((extractStridedSlice S10x1024x32 ![0, 0, 0] · slices_S50x1024x32_S10x1024x32_0_0_0) : (⟨S50x1024x32, .f32⟩ : BufTy).Contents (Elt F) → (⟨S10x1024x32, .f32⟩ : BufTy).Contents (Elt F)),
    StableHlo.nullary main_cst_1 (constant S_ .f32 0x00000000#32),
    StableHlo.unary main_cst_1 main_v5 (broadcastInDim S10x1024x128 ![] bcast_S_S10x1024x128 : (⟨S_, .f32⟩ : BufTy).Contents (Elt F) → (⟨S10x1024x128, .f32⟩ : BufTy).Contents (Elt F)),
    StableHlo.nullary main_c (constantI S_ 32 0#32),
    StableHlo.unary main_v4 main_v6_0 id,
    StableHlo.unary main_arg2 main_v6_1 id,
    StableHlo.unary main_arg3 main_v6_2 id,
    StableHlo.unary main_arg4 main_v6_3 id,
    StableHlo.unary main_c main_v6_4 id,
    StableHlo.unary main_v2 main_v6_5 id,
    StableHlo.unary main_v3 main_v6_6 id,
    StableHlo.unary main_v5 main_v6_7 id ]
theorem startOps_sub : (startOps : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev startOps_W : List (Ref sig .tc) := [main_v1, main_cst, main_v2, main_cst_0, main_v3, main_v4, main_cst_1, main_v5, main_c, main_v6_0, main_v6_1, main_v6_2, main_v6_3, main_v6_4, main_v6_5, main_v6_6, main_v6_7]
theorem startOps_writes : (startOps : List (HloOp τ sig (Elt F))).Forall fun op => op.writes ⊆ (startOps_W.map (Proc.devRef (τ := τ) .tc)).toFinset :=
  StableHlo.forall_writes_sub_of_map rfl

/-- The other forty steps' rows and the second loop's carried values. -/
abbrev midOps : List (HloOp τ sig (Elt F)) :=
  [ StableHlo.unary main_v1 main_v7 ((extractStridedSlice S40x1024x32 ![10, 0, 0] · slices_S50x1024x32_S40x1024x32_10_0_0) : (⟨S50x1024x32, .f32⟩ : BufTy).Contents (Elt F) → (⟨S40x1024x32, .f32⟩ : BufTy).Contents (Elt F)),
    StableHlo.nullary main_cst_2 (constant S_ .f32 0x00000000#32),
    StableHlo.unary main_cst_2 main_v8 (broadcastInDim S40x1024x128 ![] bcast_S_S40x1024x128 : (⟨S_, .f32⟩ : BufTy).Contents (Elt F) → (⟨S40x1024x128, .f32⟩ : BufTy).Contents (Elt F)),
    StableHlo.nullary main_c_3 (constantI S_ 32 0#32),
    StableHlo.unary main_v7 main_v9_0 id,
    StableHlo.unary main_arg2 main_v9_1 id,
    StableHlo.unary main_arg3 main_v9_2 id,
    StableHlo.unary main_arg4 main_v9_3 id,
    StableHlo.unary main_c_3 main_v9_4 id,
    StableHlo.unary main_v6_5 main_v9_5 id,
    StableHlo.unary main_v6_6 main_v9_6 id,
    StableHlo.unary main_v8 main_v9_7 id ]
theorem midOps_sub : (midOps : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev midOps_W : List (Ref sig .tc) := [main_v7, main_cst_2, main_v8, main_c_3, main_v9_0, main_v9_1, main_v9_2, main_v9_3, main_v9_4, main_v9_5, main_v9_6, main_v9_7]
theorem midOps_writes : (midOps : List (HloOp τ sig (Elt F))).Forall fun op => op.writes ⊆ (midOps_W.map (Proc.devRef (τ := τ) .tc)).toFinset :=
  StableHlo.forall_writes_sub_of_map rfl

/-- The transpose of the second loop's outputs. -/
abbrev endOps : List (HloOp τ sig (Elt F)) :=
  [ StableHlo.unary main_v9_7 main_v10 ((transpose S1024x40x128 [1, 0, 2] · transposes_S40x1024x128_S1024x40x128_1_0_2) : (⟨S40x1024x128, .f32⟩ : BufTy).Contents (Elt F) → (⟨S1024x40x128, .f32⟩ : BufTy).Contents (Elt F)) ]
theorem endOps_sub : (endOps : List (HloOp τ sig (Elt F))).Forall fun op => op.bufs ⊆ StableHlo.tcRefs τ sig :=
  StableHlo.unary_bufs_sub ..
abbrev endOps_W : List (Ref sig .tc) := [main_v10]
theorem endOps_writes : (endOps : List (HloOp τ sig (Elt F))).Forall fun op => op.writes ⊆ (endOps_W.map (Proc.devRef (τ := τ) .tc)).toFinset :=
  StableHlo.forall_writes_sub_of_map rfl

/-- Loop 0's condition: the bound, and the step number compared with it. -/
abbrev cond0Ops : List (HloOp τ sig (Elt F)) :=
  [ StableHlo.nullary main_while0c_c_11 (constantI S_ 32 10#32),
    StableHlo.binary main_v6_4 main_while0c_c_11 main_while0c_v11 (cmpi .slt) ]
theorem cond0Ops_sub : (cond0Ops : List (HloOp τ sig (Elt F))).Forall fun op => op.bufs ⊆ StableHlo.tcRefs τ sig :=
  ⟨StableHlo.nullary_bufs_sub .., StableHlo.binary_bufs_sub ..⟩
abbrev cond0Ops_W : List (Ref sig .tc) := [main_while0c_c_11, main_while0c_v11]
theorem cond0Ops_writes : (cond0Ops : List (HloOp τ sig (Elt F))).Forall fun op => op.writes ⊆ (cond0Ops_W.map (Proc.devRef (τ := τ) .tc)).toFinset :=
  StableHlo.forall_writes_sub_of_map rfl

/-- Loop 0, one trip: this step's rows. -/
abbrev row0Ops : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v6_0 : StableHlo.TRef sig ⟨S10x1024x32, .f32⟩) ![(.of main_v6_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1024x32, .f32⟩) (fun x i => Host.dynamicSlice S1x1024x32 x (fun k => (i k (Shape.Idx.first h_S_)).toInt) sliceFits_S10x1024x32_S1x1024x32),
    StableHlo.TRef.reshape (.of main_while0b_call1_v0 : StableHlo.TRef sig ⟨S1x1024x32, .f32⟩) (.of main_while0b_v11 : StableHlo.TRef sig ⟨S1024x32, .f32⟩) (rfl : (.f32 : EltTy) = .f32) shapeCasts_S1x1024x32_S1024x32 ]
theorem row0Ops_sub : (row0Ops : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev row0Ops_W : List (Ref sig .tc) := [main_while0b_call1_c, main_while0b_call1_c_0, main_while0b_call1_v0, main_while0b_v11]
theorem row0Ops_writes : (row0Ops : List (HloOp τ sig (Elt F))).Forall fun op => op.writes ⊆ (row0Ops_W.map (Proc.devRef (τ := τ) .tc)).toFinset :=
  StableHlo.forall_writes_sub_of_map rfl

/-- The gates' pre-activations. -/
abbrev pre0Ops : List (HloOp τ sig (Elt F)) :=
  [ StableHlo.binary main_while0b_v11 main_v6_1 main_while0b_v12 ((fun l r => Host.dotGeneral dot_S1024x32_S32x512_S1024x512_1_0_0_1_n_n none l r) : (⟨S1024x32, .f32⟩ : BufTy).Contents (Elt F) → (⟨S32x512, .f32⟩ : BufTy).Contents (Elt F) → (⟨S1024x512, .f32⟩ : BufTy).Contents (Elt F)),
    StableHlo.binary main_v6_5 main_v6_2 main_while0b_v13 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while0b_v12 main_while0b_v13 main_while0b_v14 (addf : (⟨S1024x512, .f32⟩ : BufTy).Contents (Elt F) → (⟨S1024x512, .f32⟩ : BufTy).Contents (Elt F) → (⟨S1024x512, .f32⟩ : BufTy).Contents (Elt F)),
    StableHlo.unary main_v6_3 main_while0b_v15 (broadcastInDim S1x512 ![1] bcast_S512_S1x512_1 : (⟨S512, .f32⟩ : BufTy).Contents (Elt F) → (⟨S1x512, .f32⟩ : BufTy).Contents (Elt F)),
    StableHlo.unary main_while0b_v15 main_while0b_v16 (broadcastInDim S1024x512 ![0, 1] bcast_S1x512_S1024x512_0_1 : (⟨S1x512, .f32⟩ : BufTy).Contents (Elt F) → (⟨S1024x512, .f32⟩ : BufTy).Contents (Elt F)),
    StableHlo.binary main_while0b_v14 main_while0b_v16 main_while0b_v17 (addf : (⟨S1024x512, .f32⟩ : BufTy).Contents (Elt F) → (⟨S1024x512, .f32⟩ : BufTy).Contents (Elt F) → (⟨S1024x512, .f32⟩ : BufTy).Contents (Elt F)) ]
theorem pre0Ops_sub : (pre0Ops : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub ..⟩
abbrev pre0Ops_W : List (Ref sig .tc) := [main_while0b_v12, main_while0b_v13, main_while0b_v14, main_while0b_v15, main_while0b_v16, main_while0b_v17]
theorem pre0Ops_writes : (pre0Ops : List (HloOp τ sig (Elt F))).Forall fun op => op.writes ⊆ (pre0Ops_W.map (Proc.devRef (τ := τ) .tc)).toFinset :=
  StableHlo.forall_writes_sub_of_map rfl

/-- The four gates. -/
abbrev gate0Ops : List (HloOp τ sig (Elt F)) :=
  [ StableHlo.unary main_while0b_v17 main_while0b_v18 ((extractStridedSlice S1024x128 ![0, 0] · slices_S1024x512_S1024x128_0_0) : (⟨S1024x512, .f32⟩ : BufTy).Contents (Elt F) → (⟨S1024x128, .f32⟩ : BufTy).Contents (Elt F)),
    StableHlo.unary main_while0b_v17 main_while0b_v19 ((extractStridedSlice S1024x128 ![0, 128] · slices_S1024x512_S1024x128_0_128) : (⟨S1024x512, .f32⟩ : BufTy).Contents (Elt F) → (⟨S1024x128, .f32⟩ : BufTy).Contents (Elt F)),
    StableHlo.unary main_while0b_v17 main_while0b_v20 ((extractStridedSlice S1024x128 ![0, 256] · slices_S1024x512_S1024x128_0_256) : (⟨S1024x512, .f32⟩ : BufTy).Contents (Elt F) → (⟨S1024x128, .f32⟩ : BufTy).Contents (Elt F)),
    StableHlo.unary main_while0b_v17 main_while0b_v21 ((extractStridedSlice S1024x128 ![0, 384] · slices_S1024x512_S1024x128_0_384) : (⟨S1024x512, .f32⟩ : BufTy).Contents (Elt F) → (⟨S1024x128, .f32⟩ : BufTy).Contents (Elt F)),
    StableHlo.unary main_while0b_v18 main_while0b_v22 (Host.negf : (⟨S1024x128, .f32⟩ : BufTy).Contents (Elt F) → (⟨S1024x128, .f32⟩ : BufTy).Contents (Elt F)),
    StableHlo.unary main_while0b_v22 main_while0b_v23 (Host.exp : (⟨S1024x128, .f32⟩ : BufTy).Contents (Elt F) → (⟨S1024x128, .f32⟩ : BufTy).Contents (Elt F)),
    StableHlo.nullary main_while0b_cst_11 (constant S_ .f32 0x3F800000#32),
    StableHlo.unary main_while0b_cst_11 main_while0b_v24 (broadcastInDim S1024x128 ![] bcast_S_S1024x128 : (⟨S_, .f32⟩ : BufTy).Contents (Elt F) → (⟨S1024x128, .f32⟩ : BufTy).Contents (Elt F)),
    StableHlo.binary main_while0b_v24 main_while0b_v23 main_while0b_v25 (addf : (⟨S1024x128, .f32⟩ : BufTy).Contents (Elt F) → (⟨S1024x128, .f32⟩ : BufTy).Contents (Elt F) → (⟨S1024x128, .f32⟩ : BufTy).Contents (Elt F)),
    StableHlo.nullary main_while0b_cst_12 (constant S_ .f32 0x3F800000#32),
    StableHlo.unary main_while0b_cst_12 main_while0b_v26 (broadcastInDim S1024x128 ![] bcast_S_S1024x128 : (⟨S_, .f32⟩ : BufTy).Contents (Elt F) → (⟨S1024x128, .f32⟩ : BufTy).Contents (Elt F)),
    StableHlo.binary main_while0b_v26 main_while0b_v25 main_while0b_v27 (Host.divf : (⟨S1024x128, .f32⟩ : BufTy).Contents (Elt F) → (⟨S1024x128, .f32⟩ : BufTy).Contents (Elt F) → (⟨S1024x128, .f32⟩ : BufTy).Contents (Elt F)),
    StableHlo.unary main_while0b_v19 main_while0b_v28 (Host.negf : (⟨S1024x128, .f32⟩ : BufTy).Contents (Elt F) → (⟨S1024x128, .f32⟩ : BufTy).Contents (Elt F)),
    StableHlo.unary main_while0b_v28 main_while0b_v29 (Host.exp : (⟨S1024x128, .f32⟩ : BufTy).Contents (Elt F) → (⟨S1024x128, .f32⟩ : BufTy).Contents (Elt F)),
    StableHlo.nullary main_while0b_cst_13 (constant S_ .f32 0x3F800000#32),
    StableHlo.unary main_while0b_cst_13 main_while0b_v30 (broadcastInDim S1024x128 ![] bcast_S_S1024x128 : (⟨S_, .f32⟩ : BufTy).Contents (Elt F) → (⟨S1024x128, .f32⟩ : BufTy).Contents (Elt F)),
    StableHlo.binary main_while0b_v30 main_while0b_v29 main_while0b_v31 (addf : (⟨S1024x128, .f32⟩ : BufTy).Contents (Elt F) → (⟨S1024x128, .f32⟩ : BufTy).Contents (Elt F) → (⟨S1024x128, .f32⟩ : BufTy).Contents (Elt F)),
    StableHlo.nullary main_while0b_cst_14 (constant S_ .f32 0x3F800000#32),
    StableHlo.unary main_while0b_cst_14 main_while0b_v32 (broadcastInDim S1024x128 ![] bcast_S_S1024x128 : (⟨S_, .f32⟩ : BufTy).Contents (Elt F) → (⟨S1024x128, .f32⟩ : BufTy).Contents (Elt F)),
    StableHlo.binary main_while0b_v32 main_while0b_v31 main_while0b_v33 (Host.divf : (⟨S1024x128, .f32⟩ : BufTy).Contents (Elt F) → (⟨S1024x128, .f32⟩ : BufTy).Contents (Elt F) → (⟨S1024x128, .f32⟩ : BufTy).Contents (Elt F)),
    StableHlo.unary main_while0b_v20 main_while0b_v34 (Host.tanh : (⟨S1024x128, .f32⟩ : BufTy).Contents (Elt F) → (⟨S1024x128, .f32⟩ : BufTy).Contents (Elt F)),
    StableHlo.unary main_while0b_v21 main_while0b_v35 (Host.negf : (⟨S1024x128, .f32⟩ : BufTy).Contents (Elt F) → (⟨S1024x128, .f32⟩ : BufTy).Contents (Elt F)),
    StableHlo.unary main_while0b_v35 main_while0b_v36 (Host.exp : (⟨S1024x128, .f32⟩ : BufTy).Contents (Elt F) → (⟨S1024x128, .f32⟩ : BufTy).Contents (Elt F)),
    StableHlo.nullary main_while0b_cst_15 (constant S_ .f32 0x3F800000#32),
    StableHlo.unary main_while0b_cst_15 main_while0b_v37 (broadcastInDim S1024x128 ![] bcast_S_S1024x128 : (⟨S_, .f32⟩ : BufTy).Contents (Elt F) → (⟨S1024x128, .f32⟩ : BufTy).Contents (Elt F)),
    StableHlo.binary main_while0b_v37 main_while0b_v36 main_while0b_v38 (addf : (⟨S1024x128, .f32⟩ : BufTy).Contents (Elt F) → (⟨S1024x128, .f32⟩ : BufTy).Contents (Elt F) → (⟨S1024x128, .f32⟩ : BufTy).Contents (Elt F)),
    StableHlo.nullary main_while0b_cst_16 (constant S_ .f32 0x3F800000#32),
    StableHlo.unary main_while0b_cst_16 main_while0b_v39 (broadcastInDim S1024x128 ![] bcast_S_S1024x128 : (⟨S_, .f32⟩ : BufTy).Contents (Elt F) → (⟨S1024x128, .f32⟩ : BufTy).Contents (Elt F)),
    StableHlo.binary main_while0b_v39 main_while0b_v38 main_while0b_v40 (Host.divf : (⟨S1024x128, .f32⟩ : BufTy).Contents (Elt F) → (⟨S1024x128, .f32⟩ : BufTy).Contents (Elt F) → (⟨S1024x128, .f32⟩ : BufTy).Contents (Elt F)) ]
theorem gate0Ops_sub : (gate0Ops : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
abbrev gate0Ops_W : List (Ref sig .tc) := [main_while0b_v18, main_while0b_v19, main_while0b_v20, main_while0b_v21, main_while0b_v22, main_while0b_v23, main_while0b_cst_11, main_while0b_v24, main_while0b_v25, main_while0b_cst_12, main_while0b_v26, main_while0b_v27, main_while0b_v28, main_while0b_v29, main_while0b_cst_13, main_while0b_v30, main_while0b_v31, main_while0b_cst_14, main_while0b_v32, main_while0b_v33, main_while0b_v34, main_while0b_v35, main_while0b_v36, main_while0b_cst_15, main_while0b_v37, main_while0b_v38, main_while0b_cst_16, main_while0b_v39, main_while0b_v40]
theorem gate0Ops_writes : (gate0Ops : List (HloOp τ sig (Elt F))).Forall fun op => op.writes ⊆ (gate0Ops_W.map (Proc.devRef (τ := τ) .tc)).toFinset :=
  StableHlo.forall_writes_sub_of_map rfl

/-- The cell and the hidden state. -/
abbrev cell0Ops : List (HloOp τ sig (Elt F)) :=
  [ StableHlo.binary main_while0b_v33 main_v6_6 main_while0b_v41 (mulf : (⟨S1024x128, .f32⟩ : BufTy).Contents (Elt F) → (⟨S1024x128, .f32⟩ : BufTy).Contents (Elt F) → (⟨S1024x128, .f32⟩ : BufTy).Contents (Elt F)),
    StableHlo.binary main_while0b_v27 main_while0b_v34 main_while0b_v42 (mulf : (⟨S1024x128, .f32⟩ : BufTy).Contents (Elt F) → (⟨S1024x128, .f32⟩ : BufTy).Contents (Elt F) → (⟨S1024x128, .f32⟩ : BufTy).Contents (Elt F)),
    StableHlo.binary main_while0b_v41 main_while0b_v42 main_while0b_v43 (addf : (⟨S1024x128, .f32⟩ : BufTy).Contents (Elt F) → (⟨S1024x128, .f32⟩ : BufTy).Contents (Elt F) → (⟨S1024x128, .f32⟩ : BufTy).Contents (Elt F)),
    StableHlo.unary main_while0b_v43 main_while0b_v44 (Host.tanh : (⟨S1024x128, .f32⟩ : BufTy).Contents (Elt F) → (⟨S1024x128, .f32⟩ : BufTy).Contents (Elt F)),
    StableHlo.binary main_while0b_v40 main_while0b_v44 main_while0b_v45 (mulf : (⟨S1024x128, .f32⟩ : BufTy).Contents (Elt F) → (⟨S1024x128, .f32⟩ : BufTy).Contents (Elt F) → (⟨S1024x128, .f32⟩ : BufTy).Contents (Elt F)) ]
theorem cell0Ops_sub : (cell0Ops : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub ..⟩
abbrev cell0Ops_W : List (Ref sig .tc) := [main_while0b_v41, main_while0b_v42, main_while0b_v43, main_while0b_v44, main_while0b_v45]
theorem cell0Ops_writes : (cell0Ops : List (HloOp τ sig (Elt F))).Forall fun op => op.writes ⊆ (cell0Ops_W.map (Proc.devRef (τ := τ) .tc)).toFinset :=
  StableHlo.forall_writes_sub_of_map rfl

/-- The hidden state put among the outputs. -/
abbrev put0Ops : List (HloOp τ sig (Elt F)) :=
  [ StableHlo.TRef.unary (.of main_while0b_v45 : StableHlo.TRef sig ⟨S1024x128, .f32⟩) (.of main_while0b_call2_v0 : StableHlo.TRef sig ⟨S1x1024x128, .f32⟩) (broadcastInDim S1x1024x128 ![1, 2] bcast_S1024x128_S1x1024x128_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v6_7 : StableHlo.TRef sig ⟨S10x1024x128, .f32⟩) (.of main_while0b_call2_v0 : StableHlo.TRef sig ⟨S1x1024x128, .f32⟩) ![(.of main_v6_4 : StableHlo.TRef sig ⟨S_, .i32⟩), (.of main_while0b_call2_c : StableHlo.TRef sig ⟨S_, .i32⟩), (.of main_while0b_call2_c_0 : StableHlo.TRef sig ⟨S_, .i32⟩)] (.of main_while0b_v46 : StableHlo.TRef sig ⟨S10x1024x128, .f32⟩) (fun x u i => Host.dynamicUpdateSlice x u (fun k => (i k (Shape.Idx.first h_S_)).toInt) updateFits_S10x1024x128_S1x1024x128) ]
theorem put0Ops_sub : (put0Ops : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev put0Ops_W : List (Ref sig .tc) := [main_while0b_call2_v0, main_while0b_call2_c, main_while0b_call2_c_0, main_while0b_v46]
theorem put0Ops_writes : (put0Ops : List (HloOp τ sig (Elt F))).Forall fun op => op.writes ⊆ (put0Ops_W.map (Proc.devRef (τ := τ) .tc)).toFinset :=
  StableHlo.forall_writes_sub_of_map rfl

/-- The step number one on, and the carried values. -/
abbrev turn0Ops : List (HloOp τ sig (Elt F)) :=
  [ StableHlo.nullary main_while0b_c_17 (constantI S_ 32 1#32),
    StableHlo.binary main_v6_4 main_while0b_c_17 main_while0b_v47 (addi : (⟨S_, .i32⟩ : BufTy).Contents (Elt F) → (⟨S_, .i32⟩ : BufTy).Contents (Elt F) → (⟨S_, .i32⟩ : BufTy).Contents (Elt F)),
    StableHlo.unary main_while0b_v47 main_v6_4 id,
    StableHlo.unary main_while0b_v45 main_v6_5 id,
    StableHlo.unary main_while0b_v43 main_v6_6 id,
    StableHlo.unary main_while0b_v46 main_v6_7 id ]
theorem turn0Ops_sub : (turn0Ops : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
abbrev turn0Ops_W : List (Ref sig .tc) := [main_while0b_c_17, main_while0b_v47, main_v6_4, main_v6_5, main_v6_6, main_v6_7]
theorem turn0Ops_writes : (turn0Ops : List (HloOp τ sig (Elt F))).Forall fun op => op.writes ⊆ (turn0Ops_W.map (Proc.devRef (τ := τ) .tc)).toFinset :=
  StableHlo.forall_writes_sub_of_map rfl

/-- Loop 1's condition: the bound, and the step number compared with it. -/
abbrev cond1Ops : List (HloOp τ sig (Elt F)) :=
  [ StableHlo.nullary main_while1c_c_11 (constantI S_ 32 40#32),
    StableHlo.binary main_v9_4 main_while1c_c_11 main_while1c_v11 (cmpi .slt) ]
theorem cond1Ops_sub : (cond1Ops : List (HloOp τ sig (Elt F))).Forall fun op => op.bufs ⊆ StableHlo.tcRefs τ sig :=
  ⟨StableHlo.nullary_bufs_sub .., StableHlo.binary_bufs_sub ..⟩
abbrev cond1Ops_W : List (Ref sig .tc) := [main_while1c_c_11, main_while1c_v11]
theorem cond1Ops_writes : (cond1Ops : List (HloOp τ sig (Elt F))).Forall fun op => op.writes ⊆ (cond1Ops_W.map (Proc.devRef (τ := τ) .tc)).toFinset :=
  StableHlo.forall_writes_sub_of_map rfl

/-- Loop 1, one trip: this step's rows. -/
abbrev row1Ops : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.unaryIndexed (.of main_v9_0 : StableHlo.TRef sig ⟨S40x1024x32, .f32⟩) ![(.of main_v9_4 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x1024x32, .f32⟩) (fun x i => Host.dynamicSlice S1x1024x32 x (fun k => (i k (Shape.Idx.first h_S_)).toInt) sliceFits_S40x1024x32_S1x1024x32),
    StableHlo.TRef.reshape (.of main_while1b_call3_v0 : StableHlo.TRef sig ⟨S1x1024x32, .f32⟩) (.of main_while1b_v11 : StableHlo.TRef sig ⟨S1024x32, .f32⟩) (rfl : (.f32 : EltTy) = .f32) shapeCasts_S1x1024x32_S1024x32 ]
theorem row1Ops_sub : (row1Ops : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev row1Ops_W : List (Ref sig .tc) := [main_while1b_call3_c, main_while1b_call3_c_0, main_while1b_call3_v0, main_while1b_v11]
theorem row1Ops_writes : (row1Ops : List (HloOp τ sig (Elt F))).Forall fun op => op.writes ⊆ (row1Ops_W.map (Proc.devRef (τ := τ) .tc)).toFinset :=
  StableHlo.forall_writes_sub_of_map rfl

/-- The gates' pre-activations. -/
abbrev pre1Ops : List (HloOp τ sig (Elt F)) :=
  [ StableHlo.binary main_while1b_v11 main_v9_1 main_while1b_v12 ((fun l r => Host.dotGeneral dot_S1024x32_S32x512_S1024x512_1_0_0_1_n_n none l r) : (⟨S1024x32, .f32⟩ : BufTy).Contents (Elt F) → (⟨S32x512, .f32⟩ : BufTy).Contents (Elt F) → (⟨S1024x512, .f32⟩ : BufTy).Contents (Elt F)),
    StableHlo.binary main_v9_5 main_v9_2 main_while1b_v13 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while1b_v12 main_while1b_v13 main_while1b_v14 (addf : (⟨S1024x512, .f32⟩ : BufTy).Contents (Elt F) → (⟨S1024x512, .f32⟩ : BufTy).Contents (Elt F) → (⟨S1024x512, .f32⟩ : BufTy).Contents (Elt F)),
    StableHlo.unary main_v9_3 main_while1b_v15 (broadcastInDim S1x512 ![1] bcast_S512_S1x512_1 : (⟨S512, .f32⟩ : BufTy).Contents (Elt F) → (⟨S1x512, .f32⟩ : BufTy).Contents (Elt F)),
    StableHlo.unary main_while1b_v15 main_while1b_v16 (broadcastInDim S1024x512 ![0, 1] bcast_S1x512_S1024x512_0_1 : (⟨S1x512, .f32⟩ : BufTy).Contents (Elt F) → (⟨S1024x512, .f32⟩ : BufTy).Contents (Elt F)),
    StableHlo.binary main_while1b_v14 main_while1b_v16 main_while1b_v17 (addf : (⟨S1024x512, .f32⟩ : BufTy).Contents (Elt F) → (⟨S1024x512, .f32⟩ : BufTy).Contents (Elt F) → (⟨S1024x512, .f32⟩ : BufTy).Contents (Elt F)) ]
theorem pre1Ops_sub : (pre1Ops : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub ..⟩
abbrev pre1Ops_W : List (Ref sig .tc) := [main_while1b_v12, main_while1b_v13, main_while1b_v14, main_while1b_v15, main_while1b_v16, main_while1b_v17]
theorem pre1Ops_writes : (pre1Ops : List (HloOp τ sig (Elt F))).Forall fun op => op.writes ⊆ (pre1Ops_W.map (Proc.devRef (τ := τ) .tc)).toFinset :=
  StableHlo.forall_writes_sub_of_map rfl

/-- The four gates. -/
abbrev gate1Ops : List (HloOp τ sig (Elt F)) :=
  [ StableHlo.unary main_while1b_v17 main_while1b_v18 ((extractStridedSlice S1024x128 ![0, 0] · slices_S1024x512_S1024x128_0_0) : (⟨S1024x512, .f32⟩ : BufTy).Contents (Elt F) → (⟨S1024x128, .f32⟩ : BufTy).Contents (Elt F)),
    StableHlo.unary main_while1b_v17 main_while1b_v19 ((extractStridedSlice S1024x128 ![0, 128] · slices_S1024x512_S1024x128_0_128) : (⟨S1024x512, .f32⟩ : BufTy).Contents (Elt F) → (⟨S1024x128, .f32⟩ : BufTy).Contents (Elt F)),
    StableHlo.unary main_while1b_v17 main_while1b_v20 ((extractStridedSlice S1024x128 ![0, 256] · slices_S1024x512_S1024x128_0_256) : (⟨S1024x512, .f32⟩ : BufTy).Contents (Elt F) → (⟨S1024x128, .f32⟩ : BufTy).Contents (Elt F)),
    StableHlo.unary main_while1b_v17 main_while1b_v21 ((extractStridedSlice S1024x128 ![0, 384] · slices_S1024x512_S1024x128_0_384) : (⟨S1024x512, .f32⟩ : BufTy).Contents (Elt F) → (⟨S1024x128, .f32⟩ : BufTy).Contents (Elt F)),
    StableHlo.unary main_while1b_v18 main_while1b_v22 (Host.negf : (⟨S1024x128, .f32⟩ : BufTy).Contents (Elt F) → (⟨S1024x128, .f32⟩ : BufTy).Contents (Elt F)),
    StableHlo.unary main_while1b_v22 main_while1b_v23 (Host.exp : (⟨S1024x128, .f32⟩ : BufTy).Contents (Elt F) → (⟨S1024x128, .f32⟩ : BufTy).Contents (Elt F)),
    StableHlo.nullary main_while1b_cst_11 (constant S_ .f32 0x3F800000#32),
    StableHlo.unary main_while1b_cst_11 main_while1b_v24 (broadcastInDim S1024x128 ![] bcast_S_S1024x128 : (⟨S_, .f32⟩ : BufTy).Contents (Elt F) → (⟨S1024x128, .f32⟩ : BufTy).Contents (Elt F)),
    StableHlo.binary main_while1b_v24 main_while1b_v23 main_while1b_v25 (addf : (⟨S1024x128, .f32⟩ : BufTy).Contents (Elt F) → (⟨S1024x128, .f32⟩ : BufTy).Contents (Elt F) → (⟨S1024x128, .f32⟩ : BufTy).Contents (Elt F)),
    StableHlo.nullary main_while1b_cst_12 (constant S_ .f32 0x3F800000#32),
    StableHlo.unary main_while1b_cst_12 main_while1b_v26 (broadcastInDim S1024x128 ![] bcast_S_S1024x128 : (⟨S_, .f32⟩ : BufTy).Contents (Elt F) → (⟨S1024x128, .f32⟩ : BufTy).Contents (Elt F)),
    StableHlo.binary main_while1b_v26 main_while1b_v25 main_while1b_v27 (Host.divf : (⟨S1024x128, .f32⟩ : BufTy).Contents (Elt F) → (⟨S1024x128, .f32⟩ : BufTy).Contents (Elt F) → (⟨S1024x128, .f32⟩ : BufTy).Contents (Elt F)),
    StableHlo.unary main_while1b_v19 main_while1b_v28 (Host.negf : (⟨S1024x128, .f32⟩ : BufTy).Contents (Elt F) → (⟨S1024x128, .f32⟩ : BufTy).Contents (Elt F)),
    StableHlo.unary main_while1b_v28 main_while1b_v29 (Host.exp : (⟨S1024x128, .f32⟩ : BufTy).Contents (Elt F) → (⟨S1024x128, .f32⟩ : BufTy).Contents (Elt F)),
    StableHlo.nullary main_while1b_cst_13 (constant S_ .f32 0x3F800000#32),
    StableHlo.unary main_while1b_cst_13 main_while1b_v30 (broadcastInDim S1024x128 ![] bcast_S_S1024x128 : (⟨S_, .f32⟩ : BufTy).Contents (Elt F) → (⟨S1024x128, .f32⟩ : BufTy).Contents (Elt F)),
    StableHlo.binary main_while1b_v30 main_while1b_v29 main_while1b_v31 (addf : (⟨S1024x128, .f32⟩ : BufTy).Contents (Elt F) → (⟨S1024x128, .f32⟩ : BufTy).Contents (Elt F) → (⟨S1024x128, .f32⟩ : BufTy).Contents (Elt F)),
    StableHlo.nullary main_while1b_cst_14 (constant S_ .f32 0x3F800000#32),
    StableHlo.unary main_while1b_cst_14 main_while1b_v32 (broadcastInDim S1024x128 ![] bcast_S_S1024x128 : (⟨S_, .f32⟩ : BufTy).Contents (Elt F) → (⟨S1024x128, .f32⟩ : BufTy).Contents (Elt F)),
    StableHlo.binary main_while1b_v32 main_while1b_v31 main_while1b_v33 (Host.divf : (⟨S1024x128, .f32⟩ : BufTy).Contents (Elt F) → (⟨S1024x128, .f32⟩ : BufTy).Contents (Elt F) → (⟨S1024x128, .f32⟩ : BufTy).Contents (Elt F)),
    StableHlo.unary main_while1b_v20 main_while1b_v34 (Host.tanh : (⟨S1024x128, .f32⟩ : BufTy).Contents (Elt F) → (⟨S1024x128, .f32⟩ : BufTy).Contents (Elt F)),
    StableHlo.unary main_while1b_v21 main_while1b_v35 (Host.negf : (⟨S1024x128, .f32⟩ : BufTy).Contents (Elt F) → (⟨S1024x128, .f32⟩ : BufTy).Contents (Elt F)),
    StableHlo.unary main_while1b_v35 main_while1b_v36 (Host.exp : (⟨S1024x128, .f32⟩ : BufTy).Contents (Elt F) → (⟨S1024x128, .f32⟩ : BufTy).Contents (Elt F)),
    StableHlo.nullary main_while1b_cst_15 (constant S_ .f32 0x3F800000#32),
    StableHlo.unary main_while1b_cst_15 main_while1b_v37 (broadcastInDim S1024x128 ![] bcast_S_S1024x128 : (⟨S_, .f32⟩ : BufTy).Contents (Elt F) → (⟨S1024x128, .f32⟩ : BufTy).Contents (Elt F)),
    StableHlo.binary main_while1b_v37 main_while1b_v36 main_while1b_v38 (addf : (⟨S1024x128, .f32⟩ : BufTy).Contents (Elt F) → (⟨S1024x128, .f32⟩ : BufTy).Contents (Elt F) → (⟨S1024x128, .f32⟩ : BufTy).Contents (Elt F)),
    StableHlo.nullary main_while1b_cst_16 (constant S_ .f32 0x3F800000#32),
    StableHlo.unary main_while1b_cst_16 main_while1b_v39 (broadcastInDim S1024x128 ![] bcast_S_S1024x128 : (⟨S_, .f32⟩ : BufTy).Contents (Elt F) → (⟨S1024x128, .f32⟩ : BufTy).Contents (Elt F)),
    StableHlo.binary main_while1b_v39 main_while1b_v38 main_while1b_v40 (Host.divf : (⟨S1024x128, .f32⟩ : BufTy).Contents (Elt F) → (⟨S1024x128, .f32⟩ : BufTy).Contents (Elt F) → (⟨S1024x128, .f32⟩ : BufTy).Contents (Elt F)) ]
theorem gate1Ops_sub : (gate1Ops : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
abbrev gate1Ops_W : List (Ref sig .tc) := [main_while1b_v18, main_while1b_v19, main_while1b_v20, main_while1b_v21, main_while1b_v22, main_while1b_v23, main_while1b_cst_11, main_while1b_v24, main_while1b_v25, main_while1b_cst_12, main_while1b_v26, main_while1b_v27, main_while1b_v28, main_while1b_v29, main_while1b_cst_13, main_while1b_v30, main_while1b_v31, main_while1b_cst_14, main_while1b_v32, main_while1b_v33, main_while1b_v34, main_while1b_v35, main_while1b_v36, main_while1b_cst_15, main_while1b_v37, main_while1b_v38, main_while1b_cst_16, main_while1b_v39, main_while1b_v40]
theorem gate1Ops_writes : (gate1Ops : List (HloOp τ sig (Elt F))).Forall fun op => op.writes ⊆ (gate1Ops_W.map (Proc.devRef (τ := τ) .tc)).toFinset :=
  StableHlo.forall_writes_sub_of_map rfl

/-- The cell and the hidden state. -/
abbrev cell1Ops : List (HloOp τ sig (Elt F)) :=
  [ StableHlo.binary main_while1b_v33 main_v9_6 main_while1b_v41 (mulf : (⟨S1024x128, .f32⟩ : BufTy).Contents (Elt F) → (⟨S1024x128, .f32⟩ : BufTy).Contents (Elt F) → (⟨S1024x128, .f32⟩ : BufTy).Contents (Elt F)),
    StableHlo.binary main_while1b_v27 main_while1b_v34 main_while1b_v42 (mulf : (⟨S1024x128, .f32⟩ : BufTy).Contents (Elt F) → (⟨S1024x128, .f32⟩ : BufTy).Contents (Elt F) → (⟨S1024x128, .f32⟩ : BufTy).Contents (Elt F)),
    StableHlo.binary main_while1b_v41 main_while1b_v42 main_while1b_v43 (addf : (⟨S1024x128, .f32⟩ : BufTy).Contents (Elt F) → (⟨S1024x128, .f32⟩ : BufTy).Contents (Elt F) → (⟨S1024x128, .f32⟩ : BufTy).Contents (Elt F)),
    StableHlo.unary main_while1b_v43 main_while1b_v44 (Host.tanh : (⟨S1024x128, .f32⟩ : BufTy).Contents (Elt F) → (⟨S1024x128, .f32⟩ : BufTy).Contents (Elt F)),
    StableHlo.binary main_while1b_v40 main_while1b_v44 main_while1b_v45 (mulf : (⟨S1024x128, .f32⟩ : BufTy).Contents (Elt F) → (⟨S1024x128, .f32⟩ : BufTy).Contents (Elt F) → (⟨S1024x128, .f32⟩ : BufTy).Contents (Elt F)) ]
theorem cell1Ops_sub : (cell1Ops : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub ..⟩
abbrev cell1Ops_W : List (Ref sig .tc) := [main_while1b_v41, main_while1b_v42, main_while1b_v43, main_while1b_v44, main_while1b_v45]
theorem cell1Ops_writes : (cell1Ops : List (HloOp τ sig (Elt F))).Forall fun op => op.writes ⊆ (cell1Ops_W.map (Proc.devRef (τ := τ) .tc)).toFinset :=
  StableHlo.forall_writes_sub_of_map rfl

/-- The hidden state put among the outputs. -/
abbrev put1Ops : List (HloOp τ sig (Elt F)) :=
  [ StableHlo.TRef.unary (.of main_while1b_v45 : StableHlo.TRef sig ⟨S1024x128, .f32⟩) (.of main_while1b_call4_v0 : StableHlo.TRef sig ⟨S1x1024x128, .f32⟩) (broadcastInDim S1x1024x128 ![1, 2] bcast_S1024x128_S1x1024x128_1_2),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.binaryIndexed (.of main_v9_7 : StableHlo.TRef sig ⟨S40x1024x128, .f32⟩) (.of main_while1b_call4_v0 : StableHlo.TRef sig ⟨S1x1024x128, .f32⟩) ![(.of main_v9_4 : StableHlo.TRef sig ⟨S_, .i32⟩), (.of main_while1b_call4_c : StableHlo.TRef sig ⟨S_, .i32⟩), (.of main_while1b_call4_c_0 : StableHlo.TRef sig ⟨S_, .i32⟩)] (.of main_while1b_v46 : StableHlo.TRef sig ⟨S40x1024x128, .f32⟩) (fun x u i => Host.dynamicUpdateSlice x u (fun k => (i k (Shape.Idx.first h_S_)).toInt) updateFits_S40x1024x128_S1x1024x128) ]
theorem put1Ops_sub : (put1Ops : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev put1Ops_W : List (Ref sig .tc) := [main_while1b_call4_v0, main_while1b_call4_c, main_while1b_call4_c_0, main_while1b_v46]
theorem put1Ops_writes : (put1Ops : List (HloOp τ sig (Elt F))).Forall fun op => op.writes ⊆ (put1Ops_W.map (Proc.devRef (τ := τ) .tc)).toFinset :=
  StableHlo.forall_writes_sub_of_map rfl

/-- The step number one on, and the carried values. -/
abbrev turn1Ops : List (HloOp τ sig (Elt F)) :=
  [ StableHlo.nullary main_while1b_c_17 (constantI S_ 32 1#32),
    StableHlo.binary main_v9_4 main_while1b_c_17 main_while1b_v47 (addi : (⟨S_, .i32⟩ : BufTy).Contents (Elt F) → (⟨S_, .i32⟩ : BufTy).Contents (Elt F) → (⟨S_, .i32⟩ : BufTy).Contents (Elt F)),
    StableHlo.unary main_while1b_v47 main_v9_4 id,
    StableHlo.unary main_while1b_v45 main_v9_5 id,
    StableHlo.unary main_while1b_v43 main_v9_6 id,
    StableHlo.unary main_while1b_v46 main_v9_7 id ]
theorem turn1Ops_sub : (turn1Ops : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
abbrev turn1Ops_W : List (Ref sig .tc) := [main_while1b_c_17, main_while1b_v47, main_v9_4, main_v9_5, main_v9_6, main_v9_7]
theorem turn1Ops_writes : (turn1Ops : List (HloOp τ sig (Elt F))).Forall fun op => op.writes ⊆ (turn1Ops_W.map (Proc.devRef (τ := τ) .tc)).toFinset :=
  StableHlo.forall_writes_sub_of_map rfl

/-- The stretches before the first loop, each loop's body, the stretches between the loops and after. -/
abbrev preI : List (List (HloOp τ sig (Elt F))) := [takeOps, startOps]
abbrev body0I : List (List (HloOp τ sig (Elt F))) := [row0Ops, pre0Ops, gate0Ops, cell0Ops, put0Ops, turn0Ops]
abbrev midI : List (List (HloOp τ sig (Elt F))) := [midOps]
abbrev body1I : List (List (HloOp τ sig (Elt F))) := [row1Ops, pre1Ops, gate1Ops, cell1Ops, put1Ops, turn1Ops]
abbrev endI : List (List (HloOp τ sig (Elt F))) := [endOps]

theorem hpreI : Plain (preI (F := F)) := .cons takeOps_sub (.cons startOps_sub .nil)
theorem hbody0I : Plain (body0I (F := F)) :=
  .cons row0Ops_sub (.cons pre0Ops_sub (.cons gate0Ops_sub (.cons cell0Ops_sub (.cons put0Ops_sub (.cons turn0Ops_sub .nil)))))
theorem hmidI : Plain (midI (F := F)) := .cons midOps_sub .nil
theorem hbody1I : Plain (body1I (F := F)) :=
  .cons row1Ops_sub (.cons pre1Ops_sub (.cons gate1Ops_sub (.cons cell1Ops_sub (.cons put1Ops_sub (.cons turn1Ops_sub .nil)))))
theorem hendI : Plain (endI (F := F)) := .cons endOps_sub .nil

/-- Each loop's body is its stretches in order. -/
theorem body0_chain : (main_while0_body (F := F)) = Pipeline.chain (body0I.map fun ops => (seq ops : Idealize.SL.Sem.Prog _ PUnit)) := by
  show _ = Pipeline.chain [seq row0Ops, seq pre0Ops, seq gate0Ops, seq cell0Ops, seq put0Ops, seq turn0Ops]
  rewrite [chain_seq_cons, chain_seq_cons, chain_seq_cons, chain_seq_cons, chain_seq_cons, chain_seq_cons]
  chain_rfl
theorem body1_chain : (main_while1_body (F := F)) = Pipeline.chain (body1I.map fun ops => (seq ops : Idealize.SL.Sem.Prog _ PUnit)) := by
  show _ = Pipeline.chain [seq row1Ops, seq pre1Ops, seq gate1Ops, seq cell1Ops, seq put1Ops, seq turn1Ops]
  rewrite [chain_seq_cons, chain_seq_cons, chain_seq_cons, chain_seq_cons, chain_seq_cons, chain_seq_cons]
  chain_rfl
/-- The whole program is its stretches and its two loops in order. -/
theorem main_chain (c : Dev nD) : main (F := F) c = Pipeline.chain
    [seq takeOps, seq startOps, HostLoop.enter 0, seq midOps, HostLoop.enter 1, seq endOps] := by
  rewrite [chain_seq_cons, chain_seq_cons, Pipeline.chain_cons, chain_seq_cons, Pipeline.chain_cons, chain_seq_cons]
  chain_rfl

end Cert.ReferenceIdeal.Hand

end
-- ==== Proof.Reference.Run.lean ====
/-
  The reference program's run. Its two loops count from 0, one step a trip, to 10 and to 40; so the program ends with
  every array at the contents that its operations, run in that order and so many times, leave (`run`).
-/
module

public import proofs.«01_k».proof.Proof.Reference.Ops
public import Idealize.ShloMosaic.Lib.Scf.ExitTest
public import Idealize.ShloMosaic.Lib.Scf.Counter
public import Idealize.ShloMosaic.Lib.StableHlo.RunClose
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs CSeg Ticket)

variable {F : FTy → Type} [FloatOps F]

local notation "𝕄" => MT nD τ sig Unit (Elt F) ℕ (Option PUnit) ℕ

variable (m : (ℓ : Loc nD τ sig) → Buf (Elt F) ℓ)

/-- What the arrays hold when the first loop is entered; before its `k`-th trip; when the second is entered; before its
    `k`-th trip; at the end. -/
def ent0 (c : Dev nD) : Valuation τ sig (Elt F) := afterL preI (launchContents m c)
def at0 (k : ℕ) (c : Dev nD) : Valuation τ sig (Elt F) := atTrip cond0Ops body0I (ent0 m) k c
def ent1 (c : Dev nD) : Valuation τ sig (Elt F) := afterL midI (after cond0Ops (at0 m 10 c))
def at1 (k : ℕ) (c : Dev nD) : Valuation τ sig (Elt F) := atTrip cond1Ops body1I (ent1 m) k c
def fin (c : Dev nD) : Valuation τ sig (Elt F) := afterL endI (after cond1Ops (at1 m 40 c))
theorem at0_succ (k : ℕ) (c : Dev nD) : at0 m (k + 1) c = afterL body0I (after cond0Ops (at0 m k c)) := rfl
theorem at1_succ (k : ℕ) (c : Dev nD) : at1 m (k + 1) c = afterL body1I (after cond1Ops (at1 m k c)) := rfl

/-! ## The step number of loop 0 -/

theorem ctr0_step (X : Valuation τ sig (Elt F)) :
    after turn0Ops X (Proc.devRef .tc main_v6_4) = addi (X (Proc.devRef .tc main_v6_4)) (constantI S_ 32 1#32) := by
  after_results
  rfl
theorem ctr0_trip (X : Valuation τ sig (Elt F)) :
    afterL body0I (after cond0Ops X) (Proc.devRef .tc main_v6_4) = addi (X (Proc.devRef .tc main_v6_4)) (constantI S_ 32 1#32) := by
  simp only [afterL_cons, afterL_nil]
  rw [ctr0_step, after_of_writes_sub put0Ops _ put0Ops_writes (by decide), after_of_writes_sub cell0Ops _ cell0Ops_writes (by decide),
    after_of_writes_sub gate0Ops _ gate0Ops_writes (by decide), after_of_writes_sub pre0Ops _ pre0Ops_writes (by decide),
    after_of_writes_sub row0Ops _ row0Ops_writes (by decide), after_of_writes_sub cond0Ops _ cond0Ops_writes (by decide)]
theorem ent0_ctr (c : Dev nD) : ent0 m c (Proc.devRef .tc main_v6_4) = fun _ => (0#32 : BitVec 32) := by
  simp only [ent0, afterL_cons, afterL_nil]
  after_results
  rfl
/-- Before trip `k` the step number is `k`. -/
theorem at0_ctr (c : Dev nD) : ∀ k, at0 m k c (Proc.devRef .tc main_v6_4) = fun _ => Scf.iv 0#32 1#32 k
  | 0 => by rw [show at0 m 0 c = ent0 m c from rfl, ent0_ctr, Scf.iv_zero]
  | k + 1 => by
    rw [at0_succ, ctr0_trip, at0_ctr c k, Scf.iv_succ]
    rfl

-- so that a rule stated for any thread applies at the device's own
set_option backward.isDefEq.respectTransparency.types false in
/-- The condition holds before the first 10 trips and fails then. -/
theorem cond0_spec (Rc : Dev nD → sProp 𝕄) :
    LoopCond (pcfgs (F := F)) defs₀ Variants.none loops Rc (main_while0_cond (F := F)) cond0Ops body0I (ent0 m) 10 := by
  intro k hk c bd
  have hctr := at0_ctr m c k
  unfold at0 at hctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops body0I (ent0 m) k c) main_v6_4 HostLoop.idx0)
        (HloOp.result _ (atTrip cond0Ops body0I (ent0 m) k c) main_while0c_c_11 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  isplitl [Hh]; · rw [after_cons, after_cons, after_nil]; iexact Hh
  iexact HR

/-! ## The step number of loop 1 -/

theorem ctr1_step (X : Valuation τ sig (Elt F)) :
    after turn1Ops X (Proc.devRef .tc main_v9_4) = addi (X (Proc.devRef .tc main_v9_4)) (constantI S_ 32 1#32) := by
  after_results
  rfl
theorem ctr1_trip (X : Valuation τ sig (Elt F)) :
    afterL body1I (after cond1Ops X) (Proc.devRef .tc main_v9_4) = addi (X (Proc.devRef .tc main_v9_4)) (constantI S_ 32 1#32) := by
  simp only [afterL_cons, afterL_nil]
  rw [ctr1_step, after_of_writes_sub put1Ops _ put1Ops_writes (by decide), after_of_writes_sub cell1Ops _ cell1Ops_writes (by decide),
    after_of_writes_sub gate1Ops _ gate1Ops_writes (by decide), after_of_writes_sub pre1Ops _ pre1Ops_writes (by decide),
    after_of_writes_sub row1Ops _ row1Ops_writes (by decide), after_of_writes_sub cond1Ops _ cond1Ops_writes (by decide)]
theorem ent1_ctr (c : Dev nD) : ent1 m c (Proc.devRef .tc main_v9_4) = fun _ => (0#32 : BitVec 32) := by
  simp only [ent1, afterL_cons, afterL_nil]
  after_results
  rfl
/-- Before trip `k` the step number is `k`. -/
theorem at1_ctr (c : Dev nD) : ∀ k, at1 m k c (Proc.devRef .tc main_v9_4) = fun _ => Scf.iv 0#32 1#32 k
  | 0 => by rw [show at1 m 0 c = ent1 m c from rfl, ent1_ctr, Scf.iv_zero]
  | k + 1 => by
    rw [at1_succ, ctr1_trip, at1_ctr c k, Scf.iv_succ]
    rfl

-- so that a rule stated for any thread applies at the device's own
set_option backward.isDefEq.respectTransparency.types false in
/-- The condition holds before the first 40 trips and fails then. -/
theorem cond1_spec (Rc : Dev nD → sProp 𝕄) :
    LoopCond (pcfgs (F := F)) defs₀ Variants.none loops Rc (main_while1_cond (F := F)) cond1Ops body1I (ent1 m) 40 := by
  intro k hk c bd
  have hctr := at1_ctr m c k
  unfold at1 at hctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops body1I (ent1 m) k c) main_v9_4 HostLoop.idx0)
        (HloOp.result _ (atTrip cond1Ops body1I (ent1 m) k c) main_while1c_c_11 HostLoop.idx0) = 1#1) (k < 40)
    rw [nullary_result_ne _ _ _ _ (by decide), nullary_result, hctr]
    exact Scf.cmpi_slt_iv_ub_iff (lb := 0#32) (ub := 40#32) (st := 1#32) (by decide) (show k ≤ Scf.trips 0#32 40#32 1#32 from hk)
  isplitl [Hb]; · iexact Hb
  isplitl [Hh]; · rw [after_cons, after_cons, after_nil]; iexact Hh
  iexact HR

/-! ## The program -/

/-- No kernel is launched: no pipeline, no ticket, no level. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
/-- What a device carries beside its arrays. -/
abbrev Rw (c : Dev nD) : sProp 𝕄 := iprop(∃ W, owes (c : Thread nD τ) (0 : CellTallies nD τ sig Unit) W)

abbrev KSeg : Type 1 := CSeg (pcfgs (F := F)) adm defs₀ Variants.none L lv loops tk

/-- The five parts: before the loops, the first, between, the second, after. -/
abbrev seg0 : KSeg (F := F) :=
  loopSeg _ _ _ _ _ _ _ _ 0 (main_while0_cond (F := F)) (main_while0_body (F := F)) rfl cond0Ops body0I hbody0I body0_chain 10 (ent0 m) Rw (cond0_spec m Rw)
abbrev seg1 : KSeg (F := F) :=
  loopSeg _ _ _ _ _ _ _ _ 1 (main_while1_cond (F := F)) (main_while1_body (F := F)) rfl cond1Ops body1I hbody1I body1_chain 40 (ent1 m) Rw (cond1_spec m Rw)
def segs : List (KSeg (F := F)) :=
  segsOf _ _ _ _ _ _ _ _ Rw preI hpreI (launchContents m) ++ (seg0 m :: (segsOf _ _ _ _ _ _ _ _ Rw midI hmidI (fun c => after cond0Ops (at0 m 10 c))
    ++ (seg1 m :: segsOf _ _ _ _ _ _ _ _ Rw endI hendI (fun c => after cond1Ops (at1 m 40 c)))))

theorem segs_prog : (segs m).map CSeg.prog
    = [seq takeOps, seq startOps, HostLoop.enter 0, seq midOps, HostLoop.enter 1, seq endOps] := rfl

theorem segs_chains : CSeg.Chains (fun c => iprop(held (c : Thread nD τ) (ucRefs τ sig) (launchContents m c) ∗ Rw c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw preI hpreI _) ⟨fun _ => .rfl,
    CSeg.Chains.append (segsOf_chains _ _ _ _ _ _ _ _ Rw midI hmidI _) ⟨fun _ => .rfl, segsOf_chains _ _ _ _ _ _ _ _ Rw endI hendI _⟩⟩

/-- THE RUN: every array ends at the program's operations run in order, the first loop's body ten times, the second's forty. -/
theorem run (ρ : Dev nD → PrngReg) : θ_run (defs (F := F)) (onTc (τ := τ) main) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none L lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## The arguments are kept -/

/-- A reference that no operation writes keeps its launch contents. -/
theorem at0_keep (c : Dev nD) {b : Ref sig .tc} (hc : b ∉ cond0Ops_W) (h1 : b ∉ row0Ops_W) (h2 : b ∉ pre0Ops_W) (h3 : b ∉ gate0Ops_W)
    (h4 : b ∉ cell0Ops_W) (h5 : b ∉ put0Ops_W) (h6 : b ∉ turn0Ops_W) : ∀ k, at0 m k c (Proc.devRef .tc b) = ent0 m c (Proc.devRef .tc b)
  | 0 => rfl
  | k + 1 => by
    rw [at0_succ]
    simp only [afterL_cons, afterL_nil]
    rw [after_of_writes_sub turn0Ops _ turn0Ops_writes h6, after_of_writes_sub put0Ops _ put0Ops_writes h5,
      after_of_writes_sub cell0Ops _ cell0Ops_writes h4, after_of_writes_sub gate0Ops _ gate0Ops_writes h3,
      after_of_writes_sub pre0Ops _ pre0Ops_writes h2, after_of_writes_sub row0Ops _ row0Ops_writes h1, after_of_writes_sub cond0Ops _ cond0Ops_writes hc]
    exact at0_keep c hc h1 h2 h3 h4 h5 h6 k
@[inherit_doc at0_keep]
theorem at1_keep (c : Dev nD) {b : Ref sig .tc} (hc : b ∉ cond1Ops_W) (h1 : b ∉ row1Ops_W) (h2 : b ∉ pre1Ops_W) (h3 : b ∉ gate1Ops_W)
    (h4 : b ∉ cell1Ops_W) (h5 : b ∉ put1Ops_W) (h6 : b ∉ turn1Ops_W) : ∀ k, at1 m k c (Proc.devRef .tc b) = ent1 m c (Proc.devRef .tc b)
  | 0 => rfl
  | k + 1 => by
    rw [at1_succ]
    simp only [afterL_cons, afterL_nil]
    rw [after_of_writes_sub turn1Ops _ turn1Ops_writes h6, after_of_writes_sub put1Ops _ put1Ops_writes h5,
      after_of_writes_sub cell1Ops _ cell1Ops_writes h4, after_of_writes_sub gate1Ops _ gate1Ops_writes h3,
      after_of_writes_sub pre1Ops _ pre1Ops_writes h2, after_of_writes_sub row1Ops _ row1Ops_writes h1, after_of_writes_sub cond1Ops _ cond1Ops_writes hc]
    exact at1_keep c hc h1 h2 h3 h4 h5 h6 k
/-- At the first loop's end and at the program's. -/
theorem arg_keep0 (c : Dev nD) {b : Ref sig .tc} (hb : b ∈ [main_arg0, main_arg1, main_arg2, main_arg3, main_arg4]) :
    after cond0Ops (at0 m 10 c) (Proc.devRef .tc b) = m ((c.tc : Thread nD τ).loc b) := by
  simp only [List.mem_cons, List.not_mem_nil, or_false] at hb
  rcases hb with rfl | rfl | rfl | rfl | rfl <;>
  · rw [after_of_writes_sub cond0Ops _ cond0Ops_writes (by decide), at0_keep m c (by decide) (by decide) (by decide) (by decide) (by decide) (by decide) (by decide)]
    unfold ent0
    simp only [afterL_cons, afterL_nil]
    rw [after_of_writes_sub startOps _ startOps_writes (by decide), after_of_writes_sub takeOps _ takeOps_writes (by decide)]
@[inherit_doc arg_keep0]
theorem arg_keep (c : Dev nD) {b : Ref sig .tc} (hb : b ∈ [main_arg0, main_arg1, main_arg2, main_arg3, main_arg4]) :
    fin m c (Proc.devRef .tc b) = m ((c.tc : Thread nD τ).loc b) := by
  refine Eq.trans ?_ (arg_keep0 m c hb)
  simp only [List.mem_cons, List.not_mem_nil, or_false] at hb
  rcases hb with rfl | rfl | rfl | rfl | rfl <;>
  · unfold fin
    simp only [afterL_cons, afterL_nil]
    rw [after_of_writes_sub endOps _ endOps_writes (by decide), after_of_writes_sub cond1Ops _ cond1Ops_writes (by decide),
      at1_keep m c (by decide) (by decide) (by decide) (by decide) (by decide) (by decide) (by decide)]
    unfold ent1
    simp only [afterL_cons, afterL_nil]
    rw [after_of_writes_sub midOps _ midOps_writes (by decide)]

/-- The program ends with its result at `fin`, its arguments as they were and every counter at zero (it has none). -/
theorem run_full (ρ : Dev nD → PrngReg) : θ_run (defs (F := F)) (onTc (τ := τ) main) ⟨m, fun _ => 0, ρ⟩
    (fun r => (∀ c : Dev nD, r.2.mem ((c.tc : Thread nD τ).loc main_v10) = fin m c (Proc.devRef .tc main_v10)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run (defs (F := F)) _ _).mono (fun r h => ⟨fun c => ⟨h c _ rfl, (h c _ rfl).trans (arg_keep m c (by decide)),
      (h c _ rfl).trans (arg_keep m c (by decide)), (h c _ rfl).trans (arg_keep m c (by decide)),
      (h c _ rfl).trans (arg_keep m c (by decide)), (h c _ rfl).trans (arg_keep m c (by decide))⟩,
    sem_eq_zero_of_no_sems (by decide) r.2⟩) (run m ρ)

end Cert.ReferenceIdeal.Hand

end
-- ==== Proof.Reference.Step.lean ====
/-
  One step of the reference, as functions of the step's rows, the weights and the state: the gates' pre-activations, the
  next cell state and the next hidden state; and the states after 0, 1, 2, … steps.
-/
module

public import proofs.«01_k».proof.Proof.Gen.ReferenceIdeal
public import Idealize.ShloMosaic.Lib.Pipeline.Value
public import Idealize.ShloMosaic.Lib.ValueLayout

@[expose] public section

set_option maxRecDepth 16384

noncomputable section

namespace Cert.ReferenceIdeal.Hand

open Cert.ReferenceIdeal Cert.ReferenceIdeal.Gen
open Idealize.ShloMosaic Idealize.ShloMosaic.ValueIdx

variable {F : FTy → Type} [FloatOps F]

/-- The contents of an f32 array of shape `s`. -/
abbrev Arr (F : FTy → Type) (s : Shape) : Type := (⟨s, .f32⟩ : BufTy).Contents (Elt F)

/-- The four gates' pre-activations: the step's rows times `w`, plus the hidden state times `r`, plus the bias. -/
def preAct (x : Arr F S1024x32) (w : Arr F S32x512) (r : Arr F S128x512) (b : Arr F S512) (h : Arr F S1024x128) : Arr F S1024x512 :=
  addf (addf (Host.dotGeneral (F := F) (φ₁ := .f32) (φ₂ := .f32) dot_S1024x32_S32x512_S1024x512_1_0_0_1_n_n none x w : Arr F S1024x512)
      (Host.dotGeneral (F := F) (φ₁ := .f32) (φ₂ := .f32) dot_S1024x128_S128x512_S1024x512_1_0_0_1_n_n none h r : Arr F S1024x512))
    (broadcastInDim S1024x512 ![0, 1] bcast_S1x512_S1024x512_0_1 (broadcastInDim S1x512 ![1] bcast_S512_S1x512_1 b))

/-- The four gates' lanes of the pre-activations. -/
def laneI (z : Arr F S1024x512) : Arr F S1024x128 := extractStridedSlice S1024x128 ![0, 0] z slices_S1024x512_S1024x128_0_0
def laneF (z : Arr F S1024x512) : Arr F S1024x128 := extractStridedSlice S1024x128 ![0, 128] z slices_S1024x512_S1024x128_0_128
def laneG (z : Arr F S1024x512) : Arr F S1024x128 := extractStridedSlice S1024x128 ![0, 256] z slices_S1024x512_S1024x128_0_256
def laneO (z : Arr F S1024x512) : Arr F S1024x128 := extractStridedSlice S1024x128 ![0, 384] z slices_S1024x512_S1024x128_0_384

/-- `1 / (1 + exp (-x))`, entry by entry. -/
def logist (x : Arr F S1024x128) : Arr F S1024x128 :=
  Host.divf (broadcastInDim S1024x128 ![] bcast_S_S1024x128 (constant S_ .f32 0x3F800000#32 : Arr F S_))
    (addf (broadcastInDim S1024x128 ![] bcast_S_S1024x128 (constant S_ .f32 0x3F800000#32 : Arr F S_)) (Host.exp (Host.negf x)))

/-- The next cell state and the next hidden state. -/
def cellNext (z : Arr F S1024x512) (c : Arr F S1024x128) : Arr F S1024x128 :=
  addf (mulf (logist (laneF z)) c) (mulf (logist (laneI z)) (Host.tanh (laneG z)))
def hidNext (z : Arr F S1024x512) (c : Arr F S1024x128) : Arr F S1024x128 :=
  mulf (logist (laneO z)) (Host.tanh (cellNext z c))

/-- Step `t`'s rows of the looked-up rows. -/
def rowOf (T : Arr F S1024x50x32) (t : ℕ) : Arr F S1024x32 := fun y => T (ix3 (y 0) (Fin.ofNat 50 t) (y 1))

/-- The hidden and the cell state after `t` steps. -/
def refSt (T : Arr F S1024x50x32) (w : Arr F S32x512) (r : Arr F S128x512) (b : Arr F S512) : ℕ → Arr F S1024x128 × Arr F S1024x128
  | 0 => (broadcastInDim S1024x128 ![] bcast_S_S1024x128 (constant S_ .f32 0x00000000#32 : Arr F S_),
      broadcastInDim S1024x128 ![] bcast_S_S1024x128 (constant S_ .f32 0x00000000#32 : Arr F S_))
  | t + 1 => (hidNext (preAct (rowOf T t) w r b (refSt T w r b t).1) (refSt T w r b t).2,
      cellNext (preAct (rowOf T t) w r b (refSt T w r b t).1) (refSt T w r b t).2)

end Cert.ReferenceIdeal.Hand

end
-- ==== Proof.Reference.Trip.lean ====
/-
  What one trip of each loop leaves in its carried arrays, over what they held before it.
-/
module

public import proofs.«01_k».proof.Proof.Reference.Ops
public import proofs.«01_k».proof.Proof.Reference.Step
public import Idealize.ShloMosaic.Lib.StableHlo.RunClose
public import Idealize.ShloMosaic.Lib.WordCmp
public import Idealize.ShloMosaic.Lib.Scf.Counter

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.ShloMosaic.ValueIdx

variable {F : FTy → Type} [FloatOps F]

/-- Row `k` of an array of `n` blocks of rows, read as a slice of one block starting at `k`, with that axis dropped. -/
theorem row_of_slice {α : Type} {n : ℕ} (x : (⟨3, ![n, 1024, 32]⟩ : Shape).Idx → α) (s : Fin 3 → Int)
    (fits : (⟨3, ![n, 1024, 32]⟩ : Shape).Slices (fun _ => 0) S1x1024x32) (hcast : S1x1024x32.ShapeCasts S1024x32) {k : ℕ} (hk : k < n)
    (hs : s = ![(k : Int), 0, 0]) :
    shapeCast S1024x32 (Host.dynamicSlice S1x1024x32 x s fits) hcast = fun y => x (ix3 (⟨k, hk⟩ : Fin n) (y 0) (y 1)) := by
  subst hs
  have hsl : (⟨3, ![n, 1024, 32]⟩ : Shape).Slices ![k, 0, 0] S1x1024x32 :=
    ⟨rfl, fun a => match a with | ⟨0, _⟩ => (by show k + 1 ≤ n; omega) | ⟨1, _⟩ => (by show 0 + 1024 ≤ 1024; omega) | ⟨2, _⟩ => (by show 0 + 32 ≤ 32; omega)⟩
  rw [WordCmp.dynamicSlice_eq_extract _ _ _ _ ![k, 0, 0] hsl (fun a => match a with | ⟨0, _⟩ => rfl | ⟨1, _⟩ => rfl | ⟨2, _⟩ => rfl)]
  funext y
  obtain ⟨p, q, rfl⟩ : ∃ p q, y = ix2 p q := ⟨y 0, y 1, eq_ix2 y⟩
  rw [shapeCast_1ab_ab_apply]
  exact extractStridedSlice_apply _ _ _ _ _ (fun a => match a with
    | ⟨0, _⟩ => rfl | ⟨1, _⟩ => (Nat.zero_add _).symm | ⟨2, _⟩ => (Nat.zero_add _).symm)

/-- An array of `n` blocks of rows with block `k` replaced. -/
theorem put_of_update {α : Type} {n : ℕ} (x : (⟨3, ![n, 1024, 128]⟩ : Shape).Idx → α) (v : S1024x128.Idx → α) (s : Fin 3 → Int)
    (fits : (⟨3, ![n, 1024, 128]⟩ : Shape).Slices (fun _ => 0) S1x1024x128) (hb : S1024x128.BroadcastsInDim S1x1024x128 ![1, 2]) {k : ℕ} (hk : k < n)
    (hs : s = ![(k : Int), 0, 0]) (a : Fin n) (p : Fin 1024) (q : Fin 128) :
    Host.dynamicUpdateSlice x (broadcastInDim S1x1024x128 ![1, 2] hb v) s fits (ix3 a p q) = if a.val = k then v (ix2 p q) else x (ix3 a p q) := by
  subst hs
  have hsl : (⟨3, ![n, 1024, 128]⟩ : Shape).Slices ![k, 0, 0] S1x1024x128 :=
    ⟨rfl, fun a => match a with | ⟨0, _⟩ => (by show k + 1 ≤ n; omega) | ⟨1, _⟩ => (by show 0 + 1024 ≤ 1024; omega) | ⟨2, _⟩ => (by show 0 + 128 ≤ 128; omega)⟩
  rw [WordCmp.dynamicUpdateSlice_eq_update _ _ _ _ ![k, 0, 0] hsl (fun a => match a with | ⟨0, _⟩ => rfl | ⟨1, _⟩ => rfl | ⟨2, _⟩ => rfl)]
  unfold updateSlice
  by_cases ha : a.val = k
  · rw [dif_pos (fun b => match b with
      | ⟨0, _⟩ => (by show k ≤ a.val ∧ a.val < k + 1; omega)
      | ⟨1, _⟩ => (by show 0 ≤ p.val ∧ p.val < 0 + 1024; omega)
      | ⟨2, _⟩ => (by show 0 ≤ q.val ∧ q.val < 0 + 128; omega)), if_pos ha]
    exact broadcastInDim_apply _ _ _ _ _ (fun b => match b with | ⟨0, _⟩ => rfl | ⟨1, _⟩ => rfl)
  · rw [if_neg ha, dif_neg (fun h => ha (by
      have h0 : k ≤ a.val ∧ a.val < k + 1 := h 0
      omega))]

/-- The starts that a trip numbered `k` computes. -/
theorem start_eq {k : ℕ} (hk : k < 50) : (![(Scf.iv 0#32 1#32 k).toInt, (0#32 : BitVec 32).toInt, (0#32 : BitVec 32).toInt] : Fin 3 → Int) = ![(k : Int), 0, 0] := by
  have : ∀ k : Fin 50, (Scf.iv 0#32 1#32 k.val).toInt = (k.val : Int) := by decide
  rw [this ⟨k, hk⟩]; rfl

/-! ## Loop 0 -/

theorem pre0_read (X : Valuation τ sig (Elt F)) : after pre0Ops X (Proc.devRef .tc main_while0b_v17)
    = preAct (X (Proc.devRef .tc main_while0b_v11)) (X (Proc.devRef .tc main_v6_1)) (X (Proc.devRef .tc main_v6_2))
      (X (Proc.devRef .tc main_v6_3)) (X (Proc.devRef .tc main_v6_5)) := by
  after_results
  rfl
theorem gate0_i (X : Valuation τ sig (Elt F)) : after gate0Ops X (Proc.devRef .tc main_while0b_v27) = logist (laneI (X (Proc.devRef .tc main_while0b_v17))) := by
  after_results
  rfl
theorem gate0_f (X : Valuation τ sig (Elt F)) : after gate0Ops X (Proc.devRef .tc main_while0b_v33) = logist (laneF (X (Proc.devRef .tc main_while0b_v17))) := by
  after_results
  rfl
theorem gate0_g (X : Valuation τ sig (Elt F)) : after gate0Ops X (Proc.devRef .tc main_while0b_v34) = Host.tanh (laneG (X (Proc.devRef .tc main_while0b_v17))) := by
  after_results
  rfl
theorem gate0_o (X : Valuation τ sig (Elt F)) : after gate0Ops X (Proc.devRef .tc main_while0b_v40) = logist (laneO (X (Proc.devRef .tc main_while0b_v17))) := by
  after_results
  rfl
/-- The two states that a trip of loop 0 computes, and the last one's place in the outputs. -/
theorem cell0_c (X : Valuation τ sig (Elt F)) : after cell0Ops (after gate0Ops X) (Proc.devRef .tc main_while0b_v43)
    = cellNext (X (Proc.devRef .tc main_while0b_v17)) (X (Proc.devRef .tc main_v6_6)) := by
  rw [← after_of_writes_sub gate0Ops X gate0Ops_writes (show main_v6_6 ∉ gate0Ops_W by decide)]
  unfold cellNext
  rw [← gate0_f, ← gate0_i, ← gate0_g]
  generalize after gate0Ops X = Y
  after_results
theorem cell0_h (X : Valuation τ sig (Elt F)) : after cell0Ops (after gate0Ops X) (Proc.devRef .tc main_while0b_v45)
    = hidNext (X (Proc.devRef .tc main_while0b_v17)) (X (Proc.devRef .tc main_v6_6)) := by
  unfold hidNext
  rw [← cell0_c, ← gate0_o]
  generalize after gate0Ops X = Y
  after_results
theorem row0_read (X : Valuation τ sig (Elt F)) (k : ℕ) (hk : k < 10) (hc : X (Proc.devRef .tc main_v6_4) = fun _ => Scf.iv 0#32 1#32 k) :
    after row0Ops X (Proc.devRef .tc main_while0b_v11) = fun y => X (Proc.devRef .tc main_v6_0) (ix3 (⟨k, hk⟩ : Fin 10) (y 0) (y 1)) := by
  after_results_simp_entrywise
  rw [hc]
  refine row_of_slice _ _ sliceFits_S10x1024x32_S1x1024x32 _ hk (Eq.trans ?_ (start_eq (by omega : k < 50)))
  exact funext fun a => match a with | ⟨0, _⟩ => rfl | ⟨1, _⟩ => rfl | ⟨2, _⟩ => rfl
theorem turn0_read (X : Valuation τ sig (Elt F)) : after turn0Ops X (Proc.devRef .tc main_v6_5) = X (Proc.devRef .tc main_while0b_v45)
    ∧ after turn0Ops X (Proc.devRef .tc main_v6_6) = X (Proc.devRef .tc main_while0b_v43)
    ∧ after turn0Ops X (Proc.devRef .tc main_v6_7) = X (Proc.devRef .tc main_while0b_v46) := by
  refine ⟨?_, ?_, ?_⟩ <;> (after_results; rfl)

/-! ## Loop 1 -/

theorem pre1_read (X : Valuation τ sig (Elt F)) : after pre1Ops X (Proc.devRef .tc main_while1b_v17)
    = preAct (X (Proc.devRef .tc main_while1b_v11)) (X (Proc.devRef .tc main_v9_1)) (X (Proc.devRef .tc main_v9_2))
      (X (Proc.devRef .tc main_v9_3)) (X (Proc.devRef .tc main_v9_5)) := by
  after_results
  rfl
theorem gate1_i (X : Valuation τ sig (Elt F)) : after gate1Ops X (Proc.devRef .tc main_while1b_v27) = logist (laneI (X (Proc.devRef .tc main_while1b_v17))) := by
  after_results
  rfl
theorem gate1_f (X : Valuation τ sig (Elt F)) : after gate1Ops X (Proc.devRef .tc main_while1b_v33) = logist (laneF (X (Proc.devRef .tc main_while1b_v17))) := by
  after_results
  rfl
theorem gate1_g (X : Valuation τ sig (Elt F)) : after gate1Ops X (Proc.devRef .tc main_while1b_v34) = Host.tanh (laneG (X (Proc.devRef .tc main_while1b_v17))) := by
  after_results
  rfl
theorem gate1_o (X : Valuation τ sig (Elt F)) : after gate1Ops X (Proc.devRef .tc main_while1b_v40) = logist (laneO (X (Proc.devRef .tc main_while1b_v17))) := by
  after_results
  rfl
/-- The two states that a trip of loop 1 computes, and the last one's place in the outputs. -/
theorem cell1_c (X : Valuation τ sig (Elt F)) : after cell1Ops (after gate1Ops X) (Proc.devRef .tc main_while1b_v43)
    = cellNext (X (Proc.devRef .tc main_while1b_v17)) (X (Proc.devRef .tc main_v9_6)) := by
  rw [← after_of_writes_sub gate1Ops X gate1Ops_writes (show main_v9_6 ∉ gate1Ops_W by decide)]
  unfold cellNext
  rw [← gate1_f, ← gate1_i, ← gate1_g]
  generalize after gate1Ops X = Y
  after_results
theorem cell1_h (X : Valuation τ sig (Elt F)) : after cell1Ops (after gate1Ops X) (Proc.devRef .tc main_while1b_v45)
    = hidNext (X (Proc.devRef .tc main_while1b_v17)) (X (Proc.devRef .tc main_v9_6)) := by
  unfold hidNext
  rw [← cell1_c, ← gate1_o]
  generalize after gate1Ops X = Y
  after_results
theorem row1_read (X : Valuation τ sig (Elt F)) (k : ℕ) (hk : k < 40) (hc : X (Proc.devRef .tc main_v9_4) = fun _ => Scf.iv 0#32 1#32 k) :
    after row1Ops X (Proc.devRef .tc main_while1b_v11) = fun y => X (Proc.devRef .tc main_v9_0) (ix3 (⟨k, hk⟩ : Fin 40) (y 0) (y 1)) := by
  after_results_simp_entrywise
  rw [hc]
  refine row_of_slice _ _ sliceFits_S40x1024x32_S1x1024x32 _ hk (Eq.trans ?_ (start_eq (by omega : k < 50)))
  exact funext fun a => match a with | ⟨0, _⟩ => rfl | ⟨1, _⟩ => rfl | ⟨2, _⟩ => rfl
theorem turn1_read (X : Valuation τ sig (Elt F)) : after turn1Ops X (Proc.devRef .tc main_v9_5) = X (Proc.devRef .tc main_while1b_v45)
    ∧ after turn1Ops X (Proc.devRef .tc main_v9_6) = X (Proc.devRef .tc main_while1b_v43)
    ∧ after turn1Ops X (Proc.devRef .tc main_v9_7) = X (Proc.devRef .tc main_while1b_v46) := by
  refine ⟨?_, ?_, ?_⟩ <;> (after_results; rfl)

theorem put1_read (X : Valuation τ sig (Elt F)) (k : ℕ) (hk : k < 40) (hc : X (Proc.devRef .tc main_v9_4) = fun _ => Scf.iv 0#32 1#32 k)
    (a : Fin 40) (p : Fin 1024) (q : Fin 128) :
    after put1Ops X (Proc.devRef .tc main_while1b_v46) (ix3 a p q)
      = if a.val = k then X (Proc.devRef .tc main_while1b_v45) (ix2 p q) else X (Proc.devRef .tc main_v9_7) (ix3 a p q) := by
  after_results_simp_entrywise
  rw [hc]
  refine put_of_update _ _ _ updateFits_S40x1024x128_S1x1024x128 bcast_S1024x128_S1x1024x128_1_2 hk (Eq.trans ?_ (start_eq (by omega : k < 50))) a p q
  exact funext fun a => match a with | ⟨0, _⟩ => rfl | ⟨1, _⟩ => rfl | ⟨2, _⟩ => rfl

end Cert.ReferenceIdeal.Hand

end
-- ==== Proof.Reference.Value.lean ====
/-
  What the reference's result holds: the hidden states after steps 11 to 50 (`fin_eq`), over the rows that its lookup
  leaves (`taken`) and the weights.
-/
module

public import proofs.«01_k».proof.Proof.Reference.Run
public import proofs.«01_k».proof.Proof.Reference.Trip

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.ShloMosaic.ValueIdx

variable {F : FTy → Type} [FloatOps F]

/-! ## One trip -/

/-- The hidden and the cell state after a trip of the first loop, over the carried arrays before it. -/
theorem body0_read (X : Valuation τ sig (Elt F)) (k : ℕ) (hk : k < 10) (hc : X (Proc.devRef .tc main_v6_4) = fun _ => Scf.iv 0#32 1#32 k) :
    let z := preAct (fun y => X (Proc.devRef .tc main_v6_0) (ix3 (⟨k, hk⟩ : Fin 10) (y 0) (y 1))) (X (Proc.devRef .tc main_v6_1))
      (X (Proc.devRef .tc main_v6_2)) (X (Proc.devRef .tc main_v6_3)) (X (Proc.devRef .tc main_v6_5))
    afterL body0I (after cond0Ops X) (Proc.devRef .tc main_v6_5) = hidNext z (X (Proc.devRef .tc main_v6_6))
    ∧ afterL body0I (after cond0Ops X) (Proc.devRef .tc main_v6_6) = cellNext z (X (Proc.devRef .tc main_v6_6)) := by
  intro z
  have hz : after pre0Ops (after row0Ops (after cond0Ops X)) (Proc.devRef .tc main_while0b_v17) = z := by
    rw [pre0_read, row0_read _ k hk (by rw [after_of_writes_sub cond0Ops _ cond0Ops_writes (by decide), hc])]
    iterate 4 rw [after_of_writes_sub row0Ops _ row0Ops_writes (by decide)]
    iterate 5 rw [after_of_writes_sub cond0Ops _ cond0Ops_writes (by decide)]
    rfl
  have h6 : after pre0Ops (after row0Ops (after cond0Ops X)) (Proc.devRef .tc main_v6_6) = X (Proc.devRef .tc main_v6_6) := by
    rw [after_of_writes_sub pre0Ops _ pre0Ops_writes (by decide), after_of_writes_sub row0Ops _ row0Ops_writes (by decide),
      after_of_writes_sub cond0Ops _ cond0Ops_writes (by decide)]
  simp only [afterL_cons, afterL_nil]
  rw [(turn0_read _).1, (turn0_read _).2.1, after_of_writes_sub put0Ops _ put0Ops_writes (by decide),
    after_of_writes_sub put0Ops _ put0Ops_writes (by decide), cell0_h, cell0_c, hz, h6]
  exact ⟨rfl, rfl⟩

/-- The same of the second loop, and its outputs with block `k` the new hidden state. -/
theorem body1_read (X : Valuation τ sig (Elt F)) (k : ℕ) (hk : k < 40) (hc : X (Proc.devRef .tc main_v9_4) = fun _ => Scf.iv 0#32 1#32 k) :
    let z := preAct (fun y => X (Proc.devRef .tc main_v9_0) (ix3 (⟨k, hk⟩ : Fin 40) (y 0) (y 1))) (X (Proc.devRef .tc main_v9_1))
      (X (Proc.devRef .tc main_v9_2)) (X (Proc.devRef .tc main_v9_3)) (X (Proc.devRef .tc main_v9_5))
    afterL body1I (after cond1Ops X) (Proc.devRef .tc main_v9_5) = hidNext z (X (Proc.devRef .tc main_v9_6))
    ∧ afterL body1I (after cond1Ops X) (Proc.devRef .tc main_v9_6) = cellNext z (X (Proc.devRef .tc main_v9_6))
    ∧ ∀ (a : Fin 40) (p : Fin 1024) (q : Fin 128), afterL body1I (after cond1Ops X) (Proc.devRef .tc main_v9_7) (ix3 a p q)
        = if a.val = k then hidNext z (X (Proc.devRef .tc main_v9_6)) (ix2 p q) else X (Proc.devRef .tc main_v9_7) (ix3 a p q) := by
  intro z
  have hz : after pre1Ops (after row1Ops (after cond1Ops X)) (Proc.devRef .tc main_while1b_v17) = z := by
    rw [pre1_read, row1_read _ k hk (by rw [after_of_writes_sub cond1Ops _ cond1Ops_writes (by decide), hc])]
    iterate 4 rw [after_of_writes_sub row1Ops _ row1Ops_writes (by decide)]
    iterate 5 rw [after_of_writes_sub cond1Ops _ cond1Ops_writes (by decide)]
    rfl
  have keep : ∀ {b : Ref sig .tc}, b ∉ cond1Ops_W → b ∉ row1Ops_W → b ∉ pre1Ops_W →
      after pre1Ops (after row1Ops (after cond1Ops X)) (Proc.devRef .tc b) = X (Proc.devRef .tc b) := fun h0 h1 h2 => by
    rw [after_of_writes_sub pre1Ops _ pre1Ops_writes h2, after_of_writes_sub row1Ops _ row1Ops_writes h1,
      after_of_writes_sub cond1Ops _ cond1Ops_writes h0]
  have keep' : ∀ {b : Ref sig .tc}, b ∉ cond1Ops_W → b ∉ row1Ops_W → b ∉ pre1Ops_W → b ∉ gate1Ops_W → b ∉ cell1Ops_W →
      after cell1Ops (after gate1Ops (after pre1Ops (after row1Ops (after cond1Ops X)))) (Proc.devRef .tc b) = X (Proc.devRef .tc b) := fun h0 h1 h2 h3 h4 => by
    rw [after_of_writes_sub cell1Ops _ cell1Ops_writes h4, after_of_writes_sub gate1Ops _ gate1Ops_writes h3, keep h0 h1 h2]
  simp only [afterL_cons, afterL_nil]
  rw [(turn1_read _).1, (turn1_read _).2.1, (turn1_read _).2.2, after_of_writes_sub put1Ops _ put1Ops_writes (by decide),
    after_of_writes_sub put1Ops _ put1Ops_writes (by decide)]
  refine ⟨?_, ?_, fun a p q => ?_⟩
  · rw [cell1_h, hz, keep (by decide) (by decide) (by decide)]
  · rw [cell1_c, hz, keep (by decide) (by decide) (by decide)]
  · rw [put1_read _ k hk (by rw [keep' (b := main_v9_4) (by decide) (by decide) (by decide) (by decide) (by decide), hc]),
      keep' (b := main_v9_7) (by decide) (by decide) (by decide) (by decide) (by decide), cell1_h, hz, keep (by decide) (by decide) (by decide)]

/-! ## What the loops are entered with -/

variable (m : (ℓ : Loc nD τ sig) → Buf (Elt F) ℓ)

/-- The table's rows that the lookup leaves. -/
def taken (c : Dev nD) : Arr F S1024x50x32 := after takeOps (launchContents m c) (Proc.devRef .tc main_v0)

/-- The states that the loops go through, over the rows taken and the launch contents of the weights. -/
def states (c : Dev nD) : ℕ → Arr F S1024x128 × Arr F S1024x128 :=
  refSt (taken m c) (m ((c.tc : Thread nD τ).loc main_arg2)) (m ((c.tc : Thread nD τ).loc main_arg3)) (m ((c.tc : Thread nD τ).loc main_arg4))

theorem start_read (Y : Valuation τ sig (Elt F)) :
    after startOps Y (Proc.devRef .tc main_v1) = transpose S50x1024x32 [1, 0, 2] (Y (Proc.devRef .tc main_v0)) transposes_S1024x50x32_S50x1024x32_1_0_2
    ∧ after startOps Y (Proc.devRef .tc main_v6_0) = extractStridedSlice S10x1024x32 ![0, 0, 0]
        (transpose S50x1024x32 [1, 0, 2] (Y (Proc.devRef .tc main_v0)) transposes_S1024x50x32_S50x1024x32_1_0_2) slices_S50x1024x32_S10x1024x32_0_0_0
    ∧ after startOps Y (Proc.devRef .tc main_v6_1) = Y (Proc.devRef .tc main_arg2) ∧ after startOps Y (Proc.devRef .tc main_v6_2) = Y (Proc.devRef .tc main_arg3)
    ∧ after startOps Y (Proc.devRef .tc main_v6_3) = Y (Proc.devRef .tc main_arg4)
    ∧ after startOps Y (Proc.devRef .tc main_v6_5) = (broadcastInDim S1024x128 ![] bcast_S_S1024x128 (constant S_ .f32 0x00000000#32 : Arr F S_) : Arr F S1024x128)
    ∧ after startOps Y (Proc.devRef .tc main_v6_6) = (broadcastInDim S1024x128 ![] bcast_S_S1024x128 (constant S_ .f32 0x00000000#32 : Arr F S_) : Arr F S1024x128) := by
  refine ⟨?_, ?_, ?_, ?_, ?_, ?_, ?_⟩ <;> (after_results; try rfl)

theorem mid_read (Y : Valuation τ sig (Elt F)) :
    after midOps Y (Proc.devRef .tc main_v9_0) = extractStridedSlice S40x1024x32 ![10, 0, 0] (Y (Proc.devRef .tc main_v1)) slices_S50x1024x32_S40x1024x32_10_0_0
    ∧ after midOps Y (Proc.devRef .tc main_v9_1) = Y (Proc.devRef .tc main_arg2) ∧ after midOps Y (Proc.devRef .tc main_v9_2) = Y (Proc.devRef .tc main_arg3)
    ∧ after midOps Y (Proc.devRef .tc main_v9_3) = Y (Proc.devRef .tc main_arg4)
    ∧ after midOps Y (Proc.devRef .tc main_v9_5) = Y (Proc.devRef .tc main_v6_5) ∧ after midOps Y (Proc.devRef .tc main_v9_6) = Y (Proc.devRef .tc main_v6_6) := by
  refine ⟨?_, ?_, ?_, ?_, ?_, ?_⟩ <;> (after_results; try rfl)

/-- Block `k` of a slice of the transposed rows, starting at block `o`: step `o + k`'s rows. -/
theorem block_row {n o k : ℕ} (T : Arr F S1024x50x32) (hs : S50x1024x32.Slices ![o, 0, 0] ⟨3, ![n, 1024, 32]⟩) (hk : k < n) (ho : o + k < 50) :
    (fun y : S1024x32.Idx => extractStridedSlice ⟨3, ![n, 1024, 32]⟩ ![o, 0, 0] (transpose S50x1024x32 [1, 0, 2] T transposes_S1024x50x32_S50x1024x32_1_0_2) hs
      (ix3 (⟨k, hk⟩ : Fin n) (y 0) (y 1))) = rowOf T (o + k) := by
  funext y
  unfold rowOf
  refine (extractStridedSlice_apply _ _ _ _ (ix3 (⟨o + k, ho⟩ : Fin 50) (y 0) (y 1)) (fun a => match a with
    | ⟨0, _⟩ => rfl | ⟨1, _⟩ => (Nat.zero_add _).symm | ⟨2, _⟩ => (Nat.zero_add _).symm)).trans ?_
  refine (transpose_apply _ _ _ _ (ix3 (y 0) (⟨o + k, ho⟩ : Fin 50) (y 1)) (fun a => match a with
    | ⟨0, _⟩ => rfl | ⟨1, _⟩ => rfl | ⟨2, _⟩ => rfl)).trans ?_
  have e : (⟨o + k, ho⟩ : Fin 50) = Fin.ofNat 50 (o + k) := Fin.ext (Nat.mod_eq_of_lt ho).symm
  exact congrArg (fun a => T (ix3 (y 0) a (y 1))) e

/-! ## The loops -/

theorem launch_arg (c : Dev nD) {b : Ref sig .tc} (h : b ∉ takeOps_W) :
    after takeOps (launchContents m c) (Proc.devRef .tc b) = m ((c.tc : Thread nD τ).loc b) := by
  rw [after_of_writes_sub takeOps _ takeOps_writes h]
theorem ent0_read (c : Dev nD) : ent0 m c = after startOps (after takeOps (launchContents m c)) := by
  unfold ent0
  simp only [afterL_cons, afterL_nil]
theorem ent1_read (c : Dev nD) : ent1 m c = after midOps (after cond0Ops (at0 m 10 c)) := by
  unfold ent1
  simp only [afterL_cons, afterL_nil]

/-- Before trip `k` of the first loop, the states are those after `k` steps. -/
theorem at0_states (c : Dev nD) : ∀ k, k ≤ 10 → at0 m k c (Proc.devRef .tc main_v6_5) = (states m c k).1
    ∧ at0 m k c (Proc.devRef .tc main_v6_6) = (states m c k).2
  | 0, _ => by
    rw [show at0 m 0 c = ent0 m c from rfl, ent0_read]
    exact ⟨(start_read _).2.2.2.2.2.1, (start_read _).2.2.2.2.2.2⟩
  | k + 1, hk => by
    obtain ⟨ih1, ih2⟩ := at0_states c k (by omega)
    obtain ⟨e1, e2⟩ := body0_read (at0 m k c) k (by omega) (at0_ctr m c k)
    obtain ⟨-, s0, s1, s2, s3, -, -⟩ := start_read (after takeOps (launchContents m c))
    have hrow : at0 m k c (Proc.devRef .tc main_v6_0) = extractStridedSlice S10x1024x32 ![0, 0, 0]
        (transpose S50x1024x32 [1, 0, 2] (taken m c) transposes_S1024x50x32_S50x1024x32_1_0_2) slices_S50x1024x32_S10x1024x32_0_0_0 := by
      rw [at0_keep m c (by decide) (by decide) (by decide) (by decide) (by decide) (by decide) (by decide), ent0_read, s0]
      rfl
    have h1 : at0 m k c (Proc.devRef .tc main_v6_1) = m ((c.tc : Thread nD τ).loc main_arg2) := by
      rw [at0_keep m c (by decide) (by decide) (by decide) (by decide) (by decide) (by decide) (by decide), ent0_read, s1, launch_arg m c (by decide)]
    have h2 : at0 m k c (Proc.devRef .tc main_v6_2) = m ((c.tc : Thread nD τ).loc main_arg3) := by
      rw [at0_keep m c (by decide) (by decide) (by decide) (by decide) (by decide) (by decide) (by decide), ent0_read, s2, launch_arg m c (by decide)]
    have h3 : at0 m k c (Proc.devRef .tc main_v6_3) = m ((c.tc : Thread nD τ).loc main_arg4) := by
      rw [at0_keep m c (by decide) (by decide) (by decide) (by decide) (by decide) (by decide) (by decide), ent0_read, s3, launch_arg m c (by decide)]
    rw [hrow, h1, h2, h3, ih1, ih2, block_row (taken m c) slices_S50x1024x32_S10x1024x32_0_0_0 (by omega) (by omega), Nat.zero_add] at e1 e2
    rw [at0_succ, e1, e2]
    exact ⟨rfl, rfl⟩

/-- Before trip `k` of the second loop, the states are those after `10 + k` steps, and output block `a < k` holds the hidden
    state after step `11 + a`. -/
theorem at1_states (c : Dev nD) : ∀ k, k ≤ 40 → at1 m k c (Proc.devRef .tc main_v9_5) = (states m c (10 + k)).1
    ∧ at1 m k c (Proc.devRef .tc main_v9_6) = (states m c (10 + k)).2
    ∧ ∀ (a : Fin 40), a.val < k → ∀ (p : Fin 1024) (q : Fin 128),
      at1 m k c (Proc.devRef .tc main_v9_7) (ix3 a p q) = (states m c (a.val + 11)).1 (ix2 p q)
  | 0, _ => by
    obtain ⟨-, -, -, -, s5, s6⟩ := mid_read (after cond0Ops (at0 m 10 c))
    obtain ⟨h, g⟩ := at0_states m c 10 le_rfl
    rw [show at1 m 0 c = ent1 m c from rfl, ent1_read, s5, s6, after_of_writes_sub cond0Ops _ cond0Ops_writes (by decide),
      after_of_writes_sub cond0Ops _ cond0Ops_writes (by decide), h, g]
    exact ⟨rfl, rfl, fun _ h => absurd h (Nat.not_lt_zero _)⟩
  | k + 1, hk => by
    obtain ⟨ih1, ih2, ih3⟩ := at1_states c k (by omega)
    obtain ⟨e1, e2, e3⟩ := body1_read (at1 m k c) k (by omega) (at1_ctr m c k)
    have hrow : at1 m k c (Proc.devRef .tc main_v9_0) = extractStridedSlice S40x1024x32 ![10, 0, 0]
        (transpose S50x1024x32 [1, 0, 2] (taken m c) transposes_S1024x50x32_S50x1024x32_1_0_2) slices_S50x1024x32_S40x1024x32_10_0_0 := by
      rw [at1_keep m c (by decide) (by decide) (by decide) (by decide) (by decide) (by decide) (by decide), ent1_read, (mid_read _).1,
        after_of_writes_sub cond0Ops _ cond0Ops_writes (by decide),
        at0_keep m c (by decide) (by decide) (by decide) (by decide) (by decide) (by decide) (by decide), ent0_read, (start_read _).1]
      rfl
    have h1 : at1 m k c (Proc.devRef .tc main_v9_1) = m ((c.tc : Thread nD τ).loc main_arg2) := by
      rw [at1_keep m c (by decide) (by decide) (by decide) (by decide) (by decide) (by decide) (by decide), ent1_read, (mid_read _).2.1,
        arg_keep0 m c (by decide)]
    have h2 : at1 m k c (Proc.devRef .tc main_v9_2) = m ((c.tc : Thread nD τ).loc main_arg3) := by
      rw [at1_keep m c (by decide) (by decide) (by decide) (by decide) (by decide) (by decide) (by decide), ent1_read, (mid_read _).2.2.1,
        arg_keep0 m c (by decide)]
    have h3 : at1 m k c (Proc.devRef .tc main_v9_3) = m ((c.tc : Thread nD τ).loc main_arg4) := by
      rw [at1_keep m c (by decide) (by decide) (by decide) (by decide) (by decide) (by decide) (by decide), ent1_read, (mid_read _).2.2.2.1,
        arg_keep0 m c (by decide)]
    rw [hrow, h1, h2, h3, ih1, ih2, block_row (taken m c) slices_S50x1024x32_S40x1024x32_10_0_0 (by omega) (by omega)] at e1 e2 e3
    rw [at1_succ, e1, e2]
    refine ⟨rfl, rfl, fun a ha p q => ?_⟩
    rw [e3]
    split
    · next h => rw [h, show k + 11 = 10 + k + 1 by omega]; rfl
    · next h => exact ih3 a (by omega) p q

/-- The result holds the hidden states after steps 11 to 50. -/
theorem fin_eq (c : Dev nD) : fin m c (Proc.devRef .tc main_v10) = fun j : S1024x40x128.Idx => (states m c ((j 1).val + 11)).1 (ix2 (j 0) (j 2)) := by
  have e : fin m c (Proc.devRef .tc main_v10) = transpose S1024x40x128 [1, 0, 2] (at1 m 40 c (Proc.devRef .tc main_v9_7)) transposes_S40x1024x128_S1024x40x128_1_0_2 := by
    rw [← after_of_writes_sub cond1Ops (at1 m 40 c) cond1Ops_writes (show main_v9_7 ∉ cond1Ops_W by decide)]
    unfold fin
    simp only [afterL_cons, afterL_nil]
    after_results
  rw [e]
  funext j
  refine (transpose_apply _ _ _ _ (ix3 (j 1) (j 0) (j 2)) (fun a => match a with
    | ⟨0, _⟩ => rfl | ⟨1, _⟩ => rfl | ⟨2, _⟩ => rfl)).trans ?_
  exact (at1_states m c 40 le_rfl).2.2 (j 1) (j 1).isLt _ _

end Cert.ReferenceIdeal.Hand

end
-- ==== Proof.Reference.Lookup.lean ====
/-
  The reference's lookup: ids that lie in the table take the table's rows.
-/
module

public import proofs.«01_k».proof.Proof.Reference.Value
public import Idealize.ShloMosaic.Lib.ReduceAll

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.StableHlo Idealize.ShloMosaic.ValueIdx

variable {F : FTy → Type} [FloatOps F]

/-- The ids as start rows: an id below zero counts from the table's end. -/
def startRows (ids : IVec S1024x50 32) : IVec S1024x50x1 32 :=
  broadcastInDim S1024x50x1 ![0, 1] bcast_S1024x50_S1024x50x1_0_1
    (select (cmpi .slt ids (broadcastInDim S1024x50 ![] bcast_S_S1024x50 (constantI S_ 32 0#32)))
      (addi ids (broadcastInDim S1024x50 ![] bcast_S_S1024x50 (constantI S_ 32 5#32))) ids)

/-- Which start rows lie in the table. -/
def inTable (ids : IVec S1024x50 32) : IVec S1024x50x1 1 :=
  andi (cmpi .sge (startRows ids) (broadcastInDim S1024x50x1 ![] bcast_S_S1024x50x1 (constantI S_ 32 0#32)))
    (cmpi .sle (startRows ids) (broadcastInDim S1024x50x1 ![0, 1, 2] bcast_S1x1x1_S1024x50x1_0_1_2
      (broadcastInDim S1x1x1 ![2] bcast_S1_S1x1x1_2 (constantI S1 32 4#32))))

/-- The lookup: the start rows' rows, and a filler where a start row lies outside the table. -/
def lookup (ids : IVec S1024x50 32) (T : Arr F S5x32) : Arr F S1024x50x32 :=
  select (broadcastInDim S1024x50x32 ![0, 1] bcast_S1024x50_S1024x50x32_0_1
      (Host.reduce IntOp.andi (inTable ids) (constantI S_ 1 1#1) reducesTo_S1024x50x1_S1024x50_d2 h_S_))
    (Host.gather gather_S5x32_S1024x50x1_S1024x50x32_2_0_n_n_0_2_132 T (startRows ids))
    (broadcastInDim S1024x50x32 ![] bcast_S_S1024x50x32 (constant S_ .f32 0x7FC00000#32))

theorem take_read (X : Valuation τ sig (Elt F)) : after takeOps X (Proc.devRef .tc main_v0)
    = lookup (X (Proc.devRef .tc main_arg0)) (X (Proc.devRef .tc main_arg1)) := by
  after_results_simp_entrywise
  rfl

theorem taken_eq (m : (ℓ : Loc nD τ sig) → Buf (Elt F) ℓ) (c : Dev nD) :
    taken m c = lookup (m ((c.tc : Thread nD τ).loc main_arg0)) (m ((c.tc : Thread nD τ).loc main_arg1)) :=
  take_read _

/-- Row `y 0 , y 1` of the gathered rows is the table's row at that start row, read signed and held within the table. -/
theorem gather_rows_apply {α : Type} (T : S5x32.Idx → α) (r : IVec S1024x50x1 32) (i : Fin 1024) (t : Fin 50) (e : Fin 32) (n : Fin 5)
    (hr : r (ix3 i t (0 : Fin 1)) = BitVec.ofNat 32 n.val) :
    Host.gather gather_S5x32_S1024x50x1_S1024x50x32_2_0_n_n_0_2_132 T r (ix3 i t e) = T (ix2 n e) := by
  have hw : ∀ n : Fin 5, min (BitVec.ofNat 32 n.val).toInt.toNat 4 = n.val := by decide
  set d := gather_S5x32_S1024x50x1_S1024x50x32_2_0_n_n_0_2_132
  refine congrArg T (funext fun a => Fin.ext ?_)
  show d.start (ix3 i t e) r a + d.batchCoord (ix3 i t e) a + d.offCoord (ix3 i t e) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    refine Eq.trans ?_ (hw n)
    rw [← hr]
    unfold GatherDims.start
    rw [dif_pos (show (⟨0, by decide⟩ : Fin 2) ∈ d.startIndexMap from List.mem_singleton.mpr rfl)]
    refine congrArg (fun w : BitVec 32 => min w.toInt.toNat 4) (congrArg r (funext fun b => Fin.ext ?_))
    match b with
    | ⟨0, _⟩ => rfl
    | ⟨1, _⟩ => rfl
    | ⟨2, _⟩ => rfl
  | ⟨1, _⟩ =>
    unfold GatherDims.start
    rw [dif_neg (fun h : (⟨1, by decide⟩ : Fin 2) ∈ d.startIndexMap => absurd (congrArg Fin.val (List.mem_singleton.mp h : (⟨1, by decide⟩ : Fin 2) = 0)) Nat.one_ne_zero), Nat.zero_add]
    rfl

section
variable (ids : IVec S1024x50 32) (n : Fin 1024 → Fin 50 → Fin 5) (hn : ∀ i t, ids (ix2 i t) = BitVec.ofNat 32 (n i t).val)
include hn

theorem startRows_apply (i : Fin 1024) (t : Fin 50) : startRows ids (ix3 i t (0 : Fin 1)) = BitVec.ofNat 32 (n i t).val := by
  have hw : ∀ n : Fin 5, Scalar.select (IntOp.cmpi .slt (BitVec.ofNat 32 n.val) 0#32) (IntOp.addi (BitVec.ofNat 32 n.val) 5#32) (BitVec.ofNat 32 n.val)
      = BitVec.ofNat 32 n.val := by decide
  refine (broadcastInDim_apply _ _ _ _ (ix2 i t) (fun a => match a with | ⟨0, _⟩ => rfl | ⟨1, _⟩ => rfl)).trans ?_
  refine Eq.trans ?_ (hw (n i t))
  rw [← hn]
  rfl

theorem inTable_apply (y : S1024x50x1.Idx) : inTable ids y = 1#1 := by
  have hw : ∀ n : Fin 5, IntOp.andi (IntOp.cmpi .sge (BitVec.ofNat 32 n.val) 0#32) (IntOp.cmpi .sle (BitVec.ofNat 32 n.val) 4#32) = 1#1 := by decide
  obtain ⟨i, t, rfl⟩ : ∃ i t, y = ix3 i t (0 : Fin 1) := ⟨y 0, y 1, funext fun a => match a with
    | ⟨0, _⟩ => rfl | ⟨1, _⟩ => rfl | ⟨2, _⟩ => Subsingleton.elim (α := Fin 1) _ _⟩
  refine Eq.trans ?_ (hw (n i t))
  rw [← startRows_apply ids n hn]
  rfl

/-- Over ids that lie in the table, the lookup is the table's row of each id. -/
theorem lookup_apply (T : Arr F S5x32) (i : Fin 1024) (t : Fin 50) (e : Fin 32) : lookup ids T (ix3 i t e) = T (ix2 (n i t) e) := by
  have hm : broadcastInDim S1024x50x32 ![0, 1] bcast_S1024x50_S1024x50x32_0_1
      (Host.reduce IntOp.andi (inTable ids) (constantI S_ 1 1#1) reducesTo_S1024x50x1_S1024x50_d2 h_S_) (ix3 i t e) = 1#1 :=
    (broadcastInDim_apply _ _ _ _ (ix2 i t) (fun a => match a with | ⟨0, _⟩ => rfl | ⟨1, _⟩ => rfl)).trans
      (Host.reduce_andi_one _ _ _ _ _ rfl (inTable_apply ids n hn))
  refine Eq.trans ?_ (gather_rows_apply T (startRows ids) i t e (n i t) (startRows_apply ids n hn i t))
  unfold lookup
  show Scalar.select (broadcastInDim S1024x50x32 ![0, 1] bcast_S1024x50_S1024x50x32_0_1
      (Host.reduce IntOp.andi (inTable ids) (constantI S_ 1 1#1) reducesTo_S1024x50x1_S1024x50_d2 h_S_) (ix3 i t e)) _ _ = _
  rw [hm]
  rfl

end

end Cert.ReferenceIdeal.Hand

end
-- ==== Proof.Scalar.lean ====
/-
  The identities of extended reals that turn the kernel's step into the reference's: the logistic function by the
  hyperbolic tangent of half its argument, and a positive real factor moved into and out of a sum.
-/
module

public import Idealize.ShloMosaic.PureOps.Ideal
public import Idealize.ShloMosaic.Lib.IdealHost

@[expose] public section

noncomputable section

namespace Cert.Scalar

open Idealize.ShloMosaic

/-- The factor one half, as an extended real. -/
abbrev half : EReal := ((1 / 2 : ℝ) : EReal)

theorem ofBits_half : Ideal.ofBits .f32 0x3F000000#32 = half := by
  simp [Ideal.ofBits, Ideal.ieee, -EReal.coe_mul]; norm_num

/-- The hyperbolic tangent is a real everywhere. -/
theorem tanh_real (x : EReal) : ∃ r : ℝ, Ideal.tanh x = (r : EReal) := by
  induction x with
  | bot => exact ⟨-1, by rw [Ideal.tanh_bot]; rfl⟩
  | top => exact ⟨1, by rw [Ideal.tanh_top]; rfl⟩
  | coe r => exact ⟨_, Ideal.tanh_coe r⟩

/-- `1 / (1 + e⁻ʳ) = (tanh (r / 2) + 1) / 2` of reals. -/
theorem logistic_tanh (r : ℝ) : (1 + Real.exp (-r))⁻¹ = 1 / 2 * (Real.tanh (1 / 2 * r) + 1) := by
  rw [Real.tanh_eq_sinh_div_cosh, Real.sinh_eq, Real.cosh_eq]
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add, add_neg_cancel, Real.exp_zero]
  have p := Real.exp_pos (1 / 2 * r)
  have q := Real.exp_pos (-(1 / 2 * r))
  rw [e]
  generalize Real.exp (1 / 2 * r) = a at *
  generalize Real.exp (-(1 / 2 * r)) = b at *
  have h1 : 1 + b * b ≠ 0 := by positivity
  have h2 : a + b ≠ 0 := by positivity
  field_simp
  linear_combination (-2 * b) * e1

/-- At every extended real: one real, the tangent of half the argument, gives the logistic function. -/
theorem gate (x : EReal) : ∃ r : ℝ, Ideal.tanh (half * x) = (r : EReal) ∧ Ideal.logistic x = ((1 / 2 * (r + 1) : ℝ) : EReal) := by
  induction x with
  | bot =>
    refine ⟨-1, ?_, ?_⟩
    · rw [EReal.coe_mul_bot_of_pos (by norm_num), Ideal.tanh_bot]; rfl
    · rw [Ideal.logistic_bot]; norm_num
  | top =>
    refine ⟨1, ?_, ?_⟩
    · rw [EReal.coe_mul_top_of_pos (by norm_num), Ideal.tanh_top]; rfl
    · rw [Ideal.logistic_top]; norm_num
  | coe r =>
    refine ⟨Real.tanh (1 / 2 * r), ?_, ?_⟩
    · rw [← EReal.coe_mul, Ideal.tanh_coe]
    · rw [Ideal.logistic_coe, logistic_tanh]

/-- The next cell state, of a real one: the kernel's form, the reference's, and that it is a real. -/
theorem cell (zi zf zg : EReal) (c : ℝ) : ∃ r : ℝ,
    half * ((Ideal.tanh (half * zf) * c + c) + (Ideal.tanh (half * zi) * Ideal.tanh zg + Ideal.tanh zg)) = (r : EReal)
    ∧ Ideal.logistic zf * c + Ideal.logistic zi * Ideal.tanh zg = (r : EReal) := by
  obtain ⟨i, hi, hi'⟩ := gate zi
  obtain ⟨f, hf, hf'⟩ := gate zf
  obtain ⟨g, hg⟩ := tanh_real zg
  rw [hi, hi', hf, hf', hg]
  refine ⟨1 / 2 * ((f * c + c) + (i * g + g)), by push_cast; rfl, ?_⟩
  rw [← EReal.coe_mul, ← EReal.coe_mul, ← EReal.coe_add]
  congr 1; ring

/-- The next hidden state, of any cell state: the kernel's form is the reference's. -/
theorem hid (zo c : EReal) :
    half * (Ideal.tanh (half * zo) * Ideal.tanh c + Ideal.tanh c) = Ideal.logistic zo * Ideal.tanh c := by
  obtain ⟨o, ho, ho'⟩ := gate zo
  obtain ⟨t, ht⟩ := tanh_real c
  rw [ho, ho', ht, ← EReal.coe_mul, ← EReal.coe_add, ← EReal.coe_mul, ← EReal.coe_mul]
  congr 1; ring

/-- A real factor that is not negative, moved into a sum of two and into a sum over a finite set. -/
theorem mul_add_of_nonneg {s : ℝ} (hs : 0 ≤ s) (x y : EReal) : (s : EReal) * (x + y) = s * x + s * y :=
  EReal.left_distrib_of_nonneg_of_ne_top (EReal.coe_nonneg.mpr hs) (EReal.coe_ne_top s) x y
theorem mul_sum_of_nonneg {ι : Type} {s : ℝ} (hs : 0 ≤ s) (A : Finset ι) (f : ι → EReal) :
    (s : EReal) * ∑ i ∈ A, f i = ∑ i ∈ A, (s : EReal) * f i := by
  classical
  induction A using Finset.induction_on with
  | empty => simp
  | insert a A ha ih => rw [Finset.sum_insert ha, Finset.sum_insert ha, mul_add_of_nonneg hs, ih]

/-- The pre-activation: the kernel's sum over the scaled weights, the last terms the scaled row that the id picks, is the
    reference's, scaled. -/
theorem preact {K E N : ℕ} {s : ℝ} (hs : 0 ≤ s) (h r : Fin K → EReal) (emb : Fin N → Fin E → EReal) (w : Fin E → EReal) (b : EReal) (n : Fin N) :
    ∑ k : Fin K, r k * s * h k + ∑ a : Fin N, (∑ e : Fin E, emb a e * w e + b) * s * (if n = a then 1 else 0)
      = s * ((∑ e : Fin E, emb n e * w e + ∑ k : Fin K, h k * r k) + b) := by
  have e2 : ∑ a : Fin N, (∑ e : Fin E, emb a e * w e + b) * s * (if n = a then (1 : EReal) else 0) = s * (∑ e : Fin E, emb n e * w e + b) := by
    simp only [mul_ite, mul_one, mul_zero, Finset.sum_ite_eq, Finset.mem_univ, if_true]
    exact mul_comm _ _
  have e1 : ∑ k : Fin K, r k * s * h k = s * ∑ k : Fin K, h k * r k := by
    rw [mul_sum_of_nonneg hs]
    exact Finset.sum_congr rfl fun k _ => by rw [mul_comm (r k), mul_assoc, mul_comm (r k)]
  rw [e1, e2, ← mul_add_of_nonneg hs]
  congr 1
  rw [add_comm (∑ e, emb n e * w e) (∑ k, h k * r k), add_assoc]

end Cert.Scalar

end
-- ==== Proof.KernelIdeal.StepIdeal.lean ====
/-
  One trip of the kernel's loop, entry by entry, over extended reals.
-/
module

public import proofs.«01_k».proof.Proof.Gen.KernelIdeal.Skeleton
public import proofs.«01_k».proof.Proof.Scalar
public import Idealize.ShloMosaic.Lib.Pipeline.Value
public import Idealize.ShloMosaic.Lib.ValueLayout
public import Idealize.ShloMosaic.Lib.MatmulPlain
public import Idealize.ShloMosaic.Lib.Pointwise.Contract

@[expose] public section

set_option maxRecDepth 16384

noncomputable section

namespace Cert.KernelIdeal.Hand

open Cert.KernelIdeal Cert.KernelIdeal.Gen Cert.Scalar
open Idealize.ShloMosaic hiding ix2
open Idealize.ShloMosaic.ValueIdx

/-! ## The lanes' factors -/

/-- The factor of lane `l`: one on the third gate's lanes, one half elsewhere. -/
def gs (l : Fin 512) : ℝ := if 256 ≤ l.val ∧ l.val < 384 then 1 else 1 / 2

theorem gs_nonneg (l : Fin 512) : 0 ≤ gs l := by unfold gs; split <;> norm_num

/-- The factors as the kernel computes them from the lane numbers. -/
def scaleRow : FVec Ideal S1x512 .f32 :=
  select (andi (cmpi .sge (iota .tc S1x512 32 [1] iota_S1x512_d1_w32) (broadcast S1x512 256#32))
      (cmpi .slt (iota .tc S1x512 32 [1] iota_S1x512_d1_w32) (broadcast S1x512 384#32)))
    (broadcast S1x512 (Scalar.ofBits (F := Ideal) .f32 0x3F800000#32)) (broadcast S1x512 (Scalar.ofBits (F := Ideal) .f32 0x3F000000#32))

theorem lane_words : ∀ l : Fin 512, IntOp.andi (IntOp.cmpi .sge (BitVec.ofNat 32 l.val) 256#32) (IntOp.cmpi .slt (BitVec.ofNat 32 l.val) 384#32)
    = if 256 ≤ l.val ∧ l.val < 384 then 1#1 else 0#1 := by decide +kernel

theorem scaleRow_apply (l : Fin 512) : scaleRow (ix2 (0 : Fin 1) l) = ((gs l : ℝ) : EReal) := by
  have e : iota .tc S1x512 32 [1] iota_S1x512_d1_w32 (ix2 (0 : Fin 1) l) = BitVec.ofNat 32 l.val := iota_single_apply _ _ _ _ _ _
  show Scalar.select (IntOp.andi (IntOp.cmpi .sge (iota .tc S1x512 32 [1] iota_S1x512_d1_w32 (ix2 (0 : Fin 1) l)) 256#32)
      (IntOp.cmpi .slt (iota .tc S1x512 32 [1] iota_S1x512_d1_w32 (ix2 (0 : Fin 1) l)) 384#32))
    (Ideal.ofBits .f32 0x3F800000#32) (Ideal.ofBits .f32 0x3F000000#32) = _
  rw [e, lane_words, Ideal.ofBits_one_f32, ofBits_half]
  unfold gs
  split <;> rfl

/-! ## The pre-activations -/

/-- The rows that the table's entries give, with the bias; and the ids as columns of ones and zeros. -/
def projRows (emb : Vec Ideal S5x32 .f32) (wk : Vec Ideal S32x512 .f32) (b : Vec Ideal S1x512 .f32) : FVec Ideal S5x512 .f32 :=
  addf (matmul (F := Ideal) (φ₁ := .f32) (φ₂ := .f32) dot_S5x32_S32x512_S5x512_1_0_0_1_n_n none emb wk (constant S5x512 .f32 0x00000000#32))
    (broadcastTo S5x512 (shapeCast S1x512 b shapeCasts_S1x512_S1x512) broadcasts_S1x512_S5x512)
def hotCols (row : Vec Ideal S1x1024 .i32) : FVec Ideal S5x1024 .f32 :=
  sitofp .f32 (extui 32 (cmpi .eq (broadcastTo S5x1024 (shapeCast S1x1024 row shapeCasts_S1x1024_S1x1024) broadcasts_S1x1024_S5x1024)
    (iota .tc S5x1024 32 [0] iota_S5x1024_d0_w32)) natLt_1_32)

theorem projRows_apply (emb : Vec Ideal S5x32 .f32) (wk : Vec Ideal S32x512 .f32) (b : Vec Ideal S1x512 .f32) (a : Fin 5) (l : Fin 512) :
    projRows emb wk b (ix2 a l) = (∑ e : Fin 32, emb (ix2 a e) * wk (ix2 e l) + b (ix2 (0 : Fin 1) l) : EReal) := by
  refine congrArg₂ (fun x y : EReal => x + y) ?_ ?_
  · refine (Ideal.matmul_plain_apply (M := 5) (N := 512) none emb wk _ a l).trans ?_
    show Ideal.ofBits .f32 0x00000000#32 + _ = _
    rw [show Ideal.ofBits .f32 0x00000000#32 = 0 by simp [Ideal.ofBits, Ideal.ieee], zero_add]
  · rw [shapeCast_self]
    exact broadcastTo_1b_ab_apply _ _ _ _

theorem hot_words : ∀ n a : Fin 5, ((IntOp.cmpi .eq (BitVec.ofNat 32 n.val) (BitVec.ofNat 32 a.val)).setWidth 32).toInt = if n = a then 1 else 0 := by
  decide +kernel

theorem hotCols_apply (row : Vec Ideal S1x1024 .i32) (i : Fin 1024) (n : Fin 5) (hn : row (ix2 (0 : Fin 1) i) = BitVec.ofNat 32 n.val) (a : Fin 5) :
    hotCols row (ix2 a i) = (if n = a then 1 else 0 : EReal) := by
  have e1 : broadcastTo S5x1024 (shapeCast S1x1024 row shapeCasts_S1x1024_S1x1024) broadcasts_S1x1024_S5x1024 (ix2 a i) = BitVec.ofNat 32 n.val := by
    rw [shapeCast_self]
    exact (broadcastTo_1b_ab_apply _ _ _ _).trans hn
  have e2 : iota .tc S5x1024 32 [0] iota_S5x1024_d0_w32 (ix2 a i) = BitVec.ofNat 32 a.val := iota_single_apply _ _ _ _ _ _
  show (((((IntOp.cmpi .eq (broadcastTo S5x1024 (shapeCast S1x1024 row shapeCasts_S1x1024_S1x1024) broadcasts_S1x1024_S5x1024 (ix2 a i))
    (iota .tc S5x1024 32 [0] iota_S5x1024_d0_w32 (ix2 a i))).setWidth 32).toInt : ℤ) : ℝ) : EReal) = _
  rw [e1, e2, hot_words]
  split <;> simp

/-- The product of the stacked weights by the stacked state and ids. -/
theorem pay2_eq (emb : Vec Ideal S5x32 .f32) (wk : Vec Ideal S32x512 .f32) (b : Vec Ideal S1x512 .f32) (wr : Vec Ideal S128x512 .f32)
    (h : FVec Ideal S128x1024 .f32) (row : Vec Ideal S1x1024 .i32) :
    k0_pay2 emb wk b wr h row = matmul (F := Ideal) (φ₁ := .f32) (φ₂ := .f32) dot_S133x512_S133x1024_S512x1024_0_0_1_1_n_n none
      (concatenate S133x512 0 [⟨S128x512, mulf wr (broadcastTo S128x512 scaleRow broadcasts_S1x512_S128x512)⟩,
        ⟨S5x512, mulf (projRows emb wk b) (broadcastTo S5x512 scaleRow broadcasts_S1x512_S5x512)⟩] concatenates_S128x512_S5x512_S133x512_d0)
      (concatenate S133x1024 0 [⟨S128x1024, h⟩, ⟨S5x1024, hotCols row⟩] concatenates_S128x1024_S5x1024_S133x1024_d0)
      (constant S512x1024 .f32 0x00000000#32) := rfl

/-- A product over the first axis of both operands, entry by entry. -/
theorem matmul_first_apply (x : FVec Ideal S133x512 .f32) (y : FVec Ideal S133x1024 .f32) (l : Fin 512) (i : Fin 1024) :
    matmul (F := Ideal) (φ₁ := .f32) (φ₂ := .f32) dot_S133x512_S133x1024_S512x1024_0_0_1_1_n_n none x y (constant S512x1024 .f32 0x00000000#32) (ix2 l i)
      = (∑ k : Fin 133, x (ix2 k l) * y (ix2 k i) : EReal) := by
  refine (Ideal.matmul_apply₁_of dot_S133x512_S133x1024_S512x1024_0_0_1_1_n_n (a := 0) rfl (K := 133) rfl x y _ (ix2 l i)
    (fun k => ix2 k l) (fun k => ix2 k i) (fun k => ?_) (fun k => ?_)).trans ?_
  · funext a; match a with | ⟨0, _⟩ => rfl | ⟨1, _⟩ => rfl
  · funext a; match a with | ⟨0, _⟩ => rfl | ⟨1, _⟩ => rfl
  · show Ideal.ofBits .f32 0x00000000#32 + _ = _
    rw [show Ideal.ofBits .f32 0x00000000#32 = 0 by simp [Ideal.ofBits, Ideal.ieee], zero_add]

/-- The pre-activations of a column whose id is `n`: the reference's, each lane scaled. -/
theorem pay2_apply (emb : Vec Ideal S5x32 .f32) (wk : Vec Ideal S32x512 .f32) (b : Vec Ideal S1x512 .f32) (wr : Vec Ideal S128x512 .f32)
    (h : FVec Ideal S128x1024 .f32) (row : Vec Ideal S1x1024 .i32) (l : Fin 512) (i : Fin 1024) (n : Fin 5)
    (hn : row (ix2 (0 : Fin 1) i) = BitVec.ofNat 32 n.val) :
    k0_pay2 emb wk b wr h row (ix2 l i) = (((gs l : ℝ) : EReal) * ((∑ e : Fin 32, emb (ix2 n e) * wk (ix2 e l)
      + ∑ k : Fin 128, h (ix2 k i) * wr (ix2 k l)) + b (ix2 (0 : Fin 1) l)) : EReal) := by
  rw [pay2_eq, matmul_first_apply, ← preact (gs_nonneg l) (fun k : Fin 128 => h (ix2 k i)) (fun k => wr (ix2 k l)) (fun a e => emb (ix2 a e))
    (fun e => wk (ix2 e l)) (b (ix2 (0 : Fin 1) l)) n]
  refine (Fin.sum_univ_add (a := 128) (b := 5) _).trans (congrArg₂ (fun x y : EReal => x + y) (Finset.sum_congr rfl fun k _ => ?_) (Finset.sum_congr rfl fun a _ => ?_))
  · have e : broadcastTo S128x512 scaleRow broadcasts_S1x512_S128x512 (ix2 k l) = ((gs l : ℝ) : EReal) :=
      (broadcastTo_1b_ab_apply _ _ _ _).trans (scaleRow_apply l)
    refine congrArg₂ (fun x y : EReal => x * y) ?_ ?_
    · refine (concatenate_pair_apply_left (t := S133x512) (s₁ := S128x512) 0 _ _ _ _ rfl (ix2 k l) (fun a => match a with | ⟨0, _⟩ => rfl | ⟨1, _⟩ => rfl)).trans ?_
      exact congrArg (fun s : EReal => (wr (ix2 k l) : EReal) * s) e
    · exact concatenate_pair_apply_left (t := S133x1024) (s₁ := S128x1024) 0 _ _ _ _ rfl (ix2 k i) (fun a => match a with | ⟨0, _⟩ => rfl | ⟨1, _⟩ => rfl)
  · have e : broadcastTo S5x512 scaleRow broadcasts_S1x512_S5x512 (ix2 a l) = ((gs l : ℝ) : EReal) :=
      (broadcastTo_1b_ab_apply _ _ _ _).trans (scaleRow_apply l)
    refine congrArg₂ (fun x y : EReal => x * y) ?_ ?_
    · refine (concatenate_pair_apply_right (t := S133x512) (s₁ := S128x512) (s₂ := S5x512) 0 _ _ _ (ix2 (Fin.natAdd 128 a : Fin 133) l) rfl rfl (ix2 a l)
        (fun b hb => match b with | ⟨0, _⟩ => absurd rfl hb | ⟨1, _⟩ => rfl) (Nat.add_comm _ _)).trans ?_
      exact congrArg₂ (fun p s : EReal => p * s) (projRows_apply emb wk b a l) e
    · exact (concatenate_pair_apply_right (t := S133x1024) (s₁ := S128x1024) (s₂ := S5x1024) 0 _ _ _ (ix2 (Fin.natAdd 128 a : Fin 133) i) rfl rfl (ix2 a i)
        (fun b hb => match b with | ⟨0, _⟩ => absurd rfl hb | ⟨1, _⟩ => rfl) (Nat.add_comm _ _)).trans (hotCols_apply row i n hn a)

/-! ## The new state -/

/-- A gate's rows of the pre-activations, from row `o` on. -/
theorem gate_apply (o : Nat) (fits : S512x1024.Slices ![o, 0] S128x1024) (x : FVec Ideal S512x1024 .f32) (u : Fin 128) (i : Fin 1024) (h : o + u.val < 512) :
    tanh (extractStridedSlice S128x1024 ![o, 0] x fits) (ix2 u i) = Ideal.tanh (x (ix2 (⟨o + u.val, h⟩ : Fin 512) i)) :=
  congrArg Ideal.tanh (extractStridedSlice_apply _ _ _ _ _ fun a => match a with
    | ⟨0, _⟩ => rfl
    | ⟨1, _⟩ => (Nat.zero_add _).symm)

theorem gs_half (l : Fin 512) (h : ¬ (256 ≤ l.val ∧ l.val < 384)) : ((gs l : ℝ) : EReal) = half := by
  unfold gs; rw [if_neg h]
theorem gs_one (l : Fin 512) (h : 256 ≤ l.val ∧ l.val < 384) : ((gs l : ℝ) : EReal) = 1 := by
  unfold gs; rw [if_pos h]; rfl

section
variable (emb : Vec Ideal S5x32 .f32) (wk : Vec Ideal S32x512 .f32) (b : Vec Ideal S1x512 .f32) (wr : Vec Ideal S128x512 .f32)
  (h c : FVec Ideal S128x1024 .f32) (row : Vec Ideal S1x1024 .i32) (u : Fin 128) (i : Fin 1024)
  (Z : Fin 512 → EReal) (hZ : ∀ l : Fin 512, k0_pay2 emb wk b wr h row (ix2 l i) = (((gs l : ℝ) : EReal) * Z l : EReal))
include hZ

/-- The new cell state of a column whose unscaled pre-activations are `Z`. -/
theorem pay3_apply :
    k0_pay3 emb wk b wr h c row (ix2 u i)
      = (half * ((Ideal.tanh (half * Z ⟨128 + u.val, by omega⟩) * c (ix2 u i) + c (ix2 u i))
        + (Ideal.tanh (half * Z ⟨u.val, by omega⟩) * Ideal.tanh (Z ⟨256 + u.val, by omega⟩) + Ideal.tanh (Z ⟨256 + u.val, by omega⟩))) : EReal) := by
  have ei := gate_apply 0 slices_S512x1024_o0_0_S128x1024 (k0_pay2 emb wk b wr h row) u i (by omega)
  have ef := gate_apply 128 slices_S512x1024_o128_0_S128x1024 (k0_pay2 emb wk b wr h row) u i (by omega)
  have eg := gate_apply 256 slices_S512x1024_o256_0_S128x1024 (k0_pay2 emb wk b wr h row) u i (by omega)
  rw [hZ, gs_half _ (by show ¬ (256 ≤ 0 + u.val ∧ _); omega)] at ei
  rw [hZ, gs_half _ (by show ¬ (256 ≤ 128 + u.val ∧ _); omega)] at ef
  rw [hZ, gs_one _ (by show 256 ≤ 256 + u.val ∧ 256 + u.val < 384; omega), one_mul] at eg
  have e0 : (⟨0 + u.val, by omega⟩ : Fin 512) = ⟨u.val, by omega⟩ := Fin.ext (Nat.zero_add _)
  rw [e0] at ei
  rw [← ei, ← ef, ← eg, ← ofBits_half]
  rfl

/-- The new hidden state of such a column. -/
theorem pay4_apply :
    k0_pay4 emb wk b wr h c row (ix2 u i)
      = (half * (Ideal.tanh (half * Z ⟨384 + u.val, by omega⟩) * Ideal.tanh (k0_pay3 emb wk b wr h c row (ix2 u i))
        + Ideal.tanh (k0_pay3 emb wk b wr h c row (ix2 u i))) : EReal) := by
  have eo := gate_apply 384 slices_S512x1024_o384_0_S128x1024 (k0_pay2 emb wk b wr h row) u i (by omega)
  rw [hZ, gs_half _ (by show ¬ (256 ≤ 384 + u.val ∧ 384 + u.val < 384); omega)] at eo
  rw [← eo, ← ofBits_half]
  rfl

end

end Cert.KernelIdeal.Hand

end
-- ==== Proof.Reference.StepIdeal.lean ====
/-
  One step of the reference, entry by entry, over extended reals.
-/
module

public import proofs.«01_k».proof.Proof.Reference.Step
public import proofs.«01_k».proof.Proof.Scalar
public import Idealize.ShloMosaic.Lib.StackMember

@[expose] public section

set_option maxRecDepth 16384

noncomputable section

namespace Cert.ReferenceIdeal.Hand

open Cert.ReferenceIdeal Cert.ReferenceIdeal.Gen
open Idealize.ShloMosaic Idealize.ShloMosaic.ValueIdx

theorem preAct_apply (x : Arr Ideal S1024x32) (w : Arr Ideal S32x512) (r : Arr Ideal S128x512) (b : Arr Ideal S512) (h : Arr Ideal S1024x128)
    (i : Fin 1024) (l : Fin 512) :
    preAct x w r b h (ix2 i l) = (∑ e : Fin 32, x (ix2 i e) * w (ix2 e l) + ∑ k : Fin 128, h (ix2 i k) * r (ix2 k l) : EReal) + b (ix1 l) := by
  refine congrArg₂ (fun a c : EReal => a + c) (congrArg₂ (fun a c : EReal => a + c) ?_ ?_) ?_
  · exact StackMember.dotGeneral_plain_apply (m := 1024) (n := 512) none x w i l
  · exact StackMember.dotGeneral_plain_apply (m := 1024) (n := 512) none h r i l
  · refine (broadcastInDim_apply _ _ _ _ (ix2 (0 : Fin 1) l) (fun a => match a with | ⟨0, _⟩ => rfl | ⟨1, _⟩ => rfl)).trans ?_
    exact broadcastInDim_apply _ _ _ _ (ix1 l) (fun a => match a with | ⟨0, _⟩ => rfl)

theorem logist_apply (x : Arr Ideal S1024x128) (j : S1024x128.Idx) : logist x j = Ideal.logistic (x j) := by
  show Ideal.div (Ideal.ofBits .f32 0x3F800000#32) (Ideal.ofBits .f32 0x3F800000#32 + Ideal.exp (-(x j))) = _
  rw [Ideal.ofBits_one_f32]
  rfl

theorem laneI_apply (z : Arr Ideal S1024x512) (i : Fin 1024) (u : Fin 128) : laneI z (ix2 i u) = z (ix2 i (⟨u.val, by omega⟩ : Fin 512)) :=
  extractStridedSlice_apply _ _ _ _ _ (fun a => match a with | ⟨0, _⟩ => (Nat.zero_add _).symm | ⟨1, _⟩ => (Nat.zero_add _).symm)
theorem laneF_apply (z : Arr Ideal S1024x512) (i : Fin 1024) (u : Fin 128) : laneF z (ix2 i u) = z (ix2 i (⟨128 + u.val, by omega⟩ : Fin 512)) :=
  extractStridedSlice_apply _ _ _ _ _ (fun a => match a with | ⟨0, _⟩ => (Nat.zero_add _).symm | ⟨1, _⟩ => rfl)
theorem laneG_apply (z : Arr Ideal S1024x512) (i : Fin 1024) (u : Fin 128) : laneG z (ix2 i u) = z (ix2 i (⟨256 + u.val, by omega⟩ : Fin 512)) :=
  extractStridedSlice_apply _ _ _ _ _ (fun a => match a with | ⟨0, _⟩ => (Nat.zero_add _).symm | ⟨1, _⟩ => rfl)
theorem laneO_apply (z : Arr Ideal S1024x512) (i : Fin 1024) (u : Fin 128) : laneO z (ix2 i u) = z (ix2 i (⟨384 + u.val, by omega⟩ : Fin 512)) :=
  extractStridedSlice_apply _ _ _ _ _ (fun a => match a with | ⟨0, _⟩ => (Nat.zero_add _).symm | ⟨1, _⟩ => rfl)

theorem cellNext_apply (z : Arr Ideal S1024x512) (c : Arr Ideal S1024x128) (j : S1024x128.Idx) :
    cellNext z c j = (Ideal.logistic (laneF z j) * c j + Ideal.logistic (laneI z j) * Ideal.tanh (laneG z j) : EReal) := by
  show (logist (laneF z) j * c j + logist (laneI z) j * Ideal.tanh (laneG z j) : EReal) = _
  rw [logist_apply, logist_apply]
theorem hidNext_apply (z : Arr Ideal S1024x512) (c : Arr Ideal S1024x128) (j : S1024x128.Idx) :
    hidNext z c j = (Ideal.logistic (laneO z j) * Ideal.tanh (cellNext z c j) : EReal) := by
  show (logist (laneO z) j * Ideal.tanh (cellNext z c j) : EReal) = _
  rw [logist_apply]

end Cert.ReferenceIdeal.Hand

end
-- ==== Proof.Agree.lean ====
/-
  The kernel's states and the reference's, trip by trip: the same reals, transposed.
-/
module

public import proofs.«01_k».proof.Proof.KernelIdeal.StepIdeal
public import proofs.«01_k».proof.Proof.KernelIdeal.Blocks
public import proofs.«01_k».proof.Proof.Reference.StepIdeal

@[expose] public section

set_option maxRecDepth 16384

noncomputable section

namespace Cert.Agree

open Cert.KernelIdeal Cert.KernelIdeal.Gen Cert.KernelIdeal.Hand Cert.Scalar
open Cert.ReferenceIdeal.Hand (refSt rowOf preAct cellNext hidNext preAct_apply cellNext_apply hidNext_apply laneI_apply laneF_apply laneG_apply laneO_apply)
open Idealize.ShloMosaic hiding ix1 ix2 ix3
open Idealize.ShloMosaic.ValueIdx

theorem zero_word : Ideal.ofBits .f32 0x00000000#32 = 0 := by simp [Ideal.ofBits, Ideal.ieee]

/-! ## One trip -/

section
variable (emb : Vec Ideal S5x32 .f32) (wk : Vec Ideal S32x512 .f32) (b : Vec Ideal S1x512 .f32) (wr : Vec Ideal S128x512 .f32)
  (bias : FVec Ideal ⟨1, ![512]⟩ .f32) (hb : ∀ l : Fin 512, (b (ix2 (0 : Fin 1) l) : EReal) = bias (ix1 l))
  (row : Vec Ideal S1x1024 .i32) (x : FVec Ideal ⟨2, ![1024, 32]⟩ .f32) (i : Fin 1024) (n : Fin 5)
  (hn : row (ix2 (0 : Fin 1) i) = BitVec.ofNat 32 n.val) (hx : ∀ e : Fin 32, (x (ix2 i e) : EReal) = emb (ix2 n e))
  (h c : FVec Ideal S128x1024 .f32) (H C : FVec Ideal ⟨2, ![1024, 128]⟩ .f32) (hH : ∀ u : Fin 128, (h (ix2 u i) : EReal) = H (ix2 i u))
include hb hn hx hH

/-- A column's pre-activations are the reference's of that row, each lane scaled. -/
theorem pre_agree (l : Fin 512) :
    k0_pay2 emb wk b wr h row (ix2 l i) = (((gs l : ℝ) : EReal) * preAct (F := Ideal) x wk wr bias H (ix2 i l) : EReal) := by
  rw [pay2_apply emb wk b wr h row l i n hn, preAct_apply, hb]
  simp only [hx, hH]

/-- A column's new states are the reference's of that row, and the new cell state is a real, when the old ones are. -/
theorem step_agree (u : Fin 128) (r : ℝ) (hc : (c (ix2 u i) : EReal) = r) (hC : (C (ix2 i u) : EReal) = r) :
    (k0_pay4 emb wk b wr h c row (ix2 u i) : EReal) = hidNext (F := Ideal) (preAct x wk wr bias H) C (ix2 i u)
    ∧ (k0_pay3 emb wk b wr h c row (ix2 u i) : EReal) = cellNext (F := Ideal) (preAct x wk wr bias H) C (ix2 i u)
    ∧ ∃ y : ℝ, (cellNext (F := Ideal) (preAct x wk wr bias H) C (ix2 i u) : EReal) = y := by
  have hZ := pre_agree emb wk b wr bias hb row x i n hn hx h H hH
  generalize preAct (F := Ideal) x wk wr bias H = z at hZ ⊢
  obtain ⟨y, hy, hy'⟩ := cell (z (ix2 i (⟨u.val, by omega⟩ : Fin 512))) (z (ix2 i (⟨128 + u.val, by omega⟩ : Fin 512))) (z (ix2 i (⟨256 + u.val, by omega⟩ : Fin 512))) r
  have ec : (k0_pay3 emb wk b wr h c row (ix2 u i) : EReal) = y := by
    rw [pay3_apply emb wk b wr h c row u i (fun l => z (ix2 i l)) hZ, hc]
    exact hy
  have ec' : (cellNext (F := Ideal) z C (ix2 i u) : EReal) = y := by
    rw [cellNext_apply, laneF_apply, laneI_apply, laneG_apply, hC]
    exact hy'
  refine ⟨?_, ec.trans ec'.symm, y, ec'⟩
  rw [pay4_apply emb wk b wr h c row u i (fun l => z (ix2 i l)) hZ, ec, hidNext_apply, ec', laneO_apply]
  exact hid _ _

end

/-! ## All trips -/

theorem row_of_rows (T : FVec Ideal ⟨3, ![1024, 50, 32]⟩ .f32) (t : ℕ) (ht : t < 50) (i : Fin 1024) (e : Fin 32) :
    (rowOf (F := Ideal) T t (ix2 i e) : EReal) = T (ix3 i (⟨t, ht⟩ : Fin 50) e) := by
  unfold rowOf
  rw [show Fin.ofNat 50 t = (⟨t, ht⟩ : Fin 50) from Fin.ext (Nat.mod_eq_of_lt ht)]

/-- Before each trip, the kernel's states are the reference's, transposed, and the cell states are reals. -/
theorem states_agree (ids : Vec Ideal S50x1024 .i32) (emb : Vec Ideal S5x32 .f32) (wk : Vec Ideal S32x512 .f32) (b : Vec Ideal S1x512 .f32)
    (wr : Vec Ideal S128x512 .f32) (T : FVec Ideal ⟨3, ![1024, 50, 32]⟩ .f32) (bias : FVec Ideal ⟨1, ![512]⟩ .f32)
    (n : Fin 1024 → Fin 50 → Fin 5)
    (hrow : ∀ (k : Fin k0_t1_loop.trips) (i : Fin 1024), rowAt ids k (ix2 (0 : Fin 1) i) = BitVec.ofNat 32 (n i ⟨k.val, k.isLt⟩).val)
    (hT : ∀ (i : Fin 1024) (t : Fin 50) (e : Fin 32), (T (ix3 i t e) : EReal) = emb (ix2 (n i t) e))
    (hb : ∀ l : Fin 512, (b (ix2 (0 : Fin 1) l) : EReal) = bias (ix1 l)) :
    ∀ t : ℕ, t ≤ 50 → ∀ (u : Fin 128) (i : Fin 1024),
    ((stAt ids emb wk b wr t).1 (ix2 u i) : EReal) = (refSt (F := Ideal) T wk wr bias t).1 (ix2 i u)
    ∧ ((stAt ids emb wk b wr t).2 (ix2 u i) : EReal) = (refSt (F := Ideal) T wk wr bias t).2 (ix2 i u)
    ∧ ∃ x : ℝ, ((refSt (F := Ideal) T wk wr bias t).2 (ix2 i u) : EReal) = x := by
  intro t
  induction t with
  | zero => exact fun _ u i => ⟨rfl, rfl, 0, zero_word⟩
  | succ t ih =>
    intro ht u i
    have ih := ih (by omega)
    obtain ⟨r, hr⟩ := (ih u i).2.2
    rw [stAt_succ ids emb wk b wr ⟨t, ht⟩]
    exact step_agree emb wk b wr bias hb (rowAt ids ⟨t, ht⟩) (rowOf (F := Ideal) T t) i (n i ⟨t, ht⟩) (hrow ⟨t, ht⟩ i)
      (fun e => (row_of_rows T t ht i e).trans (hT i ⟨t, ht⟩ e)) _ _ _ _ (fun u => (ih u i).1) u r ((ih u i).2.1.trans hr) hr

end Cert.Agree

end
-- ==== Proof.Ids.lean ====
/-
  What the precondition says: every id is a row of the five-row table.
-/
module

public import proofs.«01_k».proof.Pre_ids_in_table
public import Idealize.ShloMosaic.Lib.ReduceAll
public import Idealize.ShloMosaic.Lib.StableHlo.Predicate

@[expose] public section

set_option maxRecDepth 16384

noncomputable section

namespace Cert.Ids

open Cert.Pre_ids_in_table
open Idealize.ShloMosaic

theorem facts : Cert.Pre_ids_in_table.Facts := ⟨by decide, by decide, by decide⟩

/-- A word that is at least zero and below five, read signed, is one of the five first. -/
theorem word_of_range (w : BitVec 32) (h : IntOp.andi (IntOp.cmpi .sge w 0#32) (IntOp.cmpi .slt w 5#32) = 1#1) :
    ∃ n : Fin 5, w = BitVec.ofNat 32 n.val := by
  have hb : ∀ x y : BitVec 1, IntOp.andi x y = 1#1 → x = 1#1 ∧ y = 1#1 := by decide
  obtain ⟨h0, h5⟩ := hb _ _ h
  have i0 : (0 : Int) ≤ w.toInt := by
    have := (StableHlo.Predicate.ofBool_eq_one_iff _).mp (show BitVec.ofBool ((0#32 : BitVec 32).sle w) = 1#1 from h0)
    simpa [BitVec.sle] using this
  have i5 : w.toInt < 5 := by
    have := (StableHlo.Predicate.ofBool_eq_one_iff _).mp (show BitVec.ofBool (w.slt 5#32) = 1#1 from h5)
    simpa [BitVec.slt] using this
  have hlt := w.isLt
  rw [BitVec.toInt_eq_toNat_cond] at i0 i5
  have : w.toNat < 5 := by split at i0 <;> split at i5 <;> omega
  exact ⟨⟨w.toNat, this⟩, by simp⟩

/-- Under the precondition the ids name rows of the table. -/
theorem rows_of_pre {F : FTy → Type} [FloatOps F] [Cert.Pre_ids_in_table.Facts] (ids : IVec S1024x50 32) (emb : FVec F S5x32 .f32) (wk : FVec F S32x512 .f32)
    (wr : FVec F S128x512 .f32) (b : FVec F S512 .f32) (h : fn (F := F) ids emb wk wr b = fun _ => 1#1) :
    ∃ n : S1024x50.Idx → Fin 5, ∀ y, ids y = BitVec.ofNat 32 (n y).val := by
  haveI : Subsingleton S_.Idx := ⟨fun a b => funext fun k => k.elim0⟩
  unfold fn at h
  dsimp only at h
  have all (y : S1024x50.Idx) : IntOp.andi (IntOp.cmpi .sge (ids y) 0#32) (IntOp.cmpi .slt (ids y) 5#32) = 1#1 := by
    have e := congrFun h (fun k => k.elim0)
    exact Host.reduce_andi_all _ _ _ _ _ e y
  exact ⟨fun y => (word_of_range _ (all y)).choose, fun y => (word_of_range _ (all y)).choose_spec⟩

end Cert.Ids

end
-- ==== Proof.lean ====
/-
  The certificate: each program's frame, that the idealization keeps the kernel's text, and that over extended reals the
  kernel's result is the reference's when the ids lie in the table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.KernelIdeal.Staged
public import proofs.«01_k».proof.Proof.Reference.Run
public import proofs.«01_k».proof.Proof.Reference.Lookup
public import proofs.«01_k».proof.Proof.Agree
public import proofs.«01_k».proof.Proof.Ids

@[expose] public section

set_option maxRecDepth 16384

noncomputable section

namespace Cert.Proof

open Idealize.ShloMosaic hiding ix1 ix2 ix3
open Idealize.SL.Sem
open Idealize.ShloMosaic.ValueIdx (ix1 ix2 ix3)

/-- The reference runs, keeps its arguments and leaves every counter at zero. -/
theorem frame_reference : Cert.quiescent_ReferenceIdeal := fun m ρ _ =>
  (θ_run Cert.ReferenceIdeal.defs _ _).mono (fun _ h => ⟨fun c => (h.1 c).2, h.2⟩) (Cert.ReferenceIdeal.Hand.run_full (F := Ideal) m ρ)

/-- From arguments that agree, with every id in the table, the reference's result is the kernel's. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (n : Cert.KernelIdeal.S1024x50.Idx → Fin 5)
    (hn : ∀ y, m ((c.tc : Thread Cert.KernelIdeal.nD Cert.KernelIdeal.τ).loc Cert.KernelIdeal.main_arg0) y = BitVec.ofNat 32 (n y).val)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.fin m' c (Proc.devRef .tc Cert.ReferenceIdeal.main_v10) = Cert.KernelIdeal.Hand.outOf m c Cert.KernelIdeal.Gen.t0_0 := by
  rw [Cert.ReferenceIdeal.Hand.fin_eq]
  unfold Cert.ReferenceIdeal.Hand.states
  rw [Cert.ReferenceIdeal.Hand.taken_eq, h0, h1, h2, h3, h4]
  unfold Cert.KernelIdeal.Hand.outOf Cert.KernelIdeal.Hand.outArr
  rw [Cert.KernelIdeal.Hand.blkEmb_eq, Cert.KernelIdeal.Hand.blkW_eq, Cert.KernelIdeal.Hand.blkRec_eq]
  funext j
  have hj : (j 1).val < 40 := (j 1).isLt
  have hT := Cert.ReferenceIdeal.Hand.lookup_apply (F := Ideal) _ (fun i t => n (ix2 i t)) (fun i t => hn (ix2 i t))
    (m ((c.tc : Thread Cert.KernelIdeal.nD Cert.KernelIdeal.τ).loc Cert.KernelIdeal.main_arg1))
  generalize Cert.ReferenceIdeal.Hand.lookup (F := Ideal) _ _ = T at hT ⊢
  exact (Cert.Agree.states_agree (Cert.KernelIdeal.Hand.blkIds m c Cert.KernelIdeal.Gen.t0_0) _ _ (Cert.KernelIdeal.Hand.blkBias m c Cert.KernelIdeal.Gen.t0_0) _
    T _ (fun i t => n (ix2 i t)) (fun k i => (Cert.KernelIdeal.Hand.row_apply m c k i).trans (hn _)) hT
    (fun l => Cert.KernelIdeal.Hand.bias_apply m c l) ((j 1).val + 11) (by omega) (j 2) (j 0)).1.symm

/-- Over extended reals, with every id in the table, the two programs end with equal results. -/
theorem agree : Cert.algebraic_KernelIdeal_ReferenceIdeal_pre_ids_in_table (hPre_ids_in_table := Cert.Ids.facts) := by
  intro m ρ m' ρ' hpre hargs
  refine ⟨fun c => Cert.KernelIdeal.Hand.outOf m c Cert.KernelIdeal.Gen.t0_0,
    (θ_run Cert.KernelIdeal.defs _ _).mono (fun _ h c => h.1 c) (Cert.KernelIdeal.Hand.run_full (F := Ideal) m ρ),
    (θ_run Cert.ReferenceIdeal.defs _ _).mono (fun _ h c => ⟨(h.1 c).1.trans ?_, (h.1 c).2⟩) (Cert.ReferenceIdeal.Hand.run_full (F := Ideal) m' ρ')⟩
  haveI := Cert.Ids.facts
  obtain ⟨n, hn⟩ := Cert.Ids.rows_of_pre _ _ _ _ _ (hpre c)
  obtain ⟨h0, h1, h2, h3, h4⟩ := hargs c
  exact result_agree m m' c n hn h0 h1 h2 h3 h4

theorem claim : Cert.Claim := ⟨Cert.Kernel.Gen.facts, Cert.KernelIdeal.Gen.facts, Cert.ReferenceIdeal.Gen.facts, Cert.Ids.facts,
  fun m ρ _ => Cert.Kernel.Hand.frame m ρ, fun m ρ _ => Cert.KernelIdeal.Hand.frame m ρ, fun m ρ _ => Cert.KernelIdeal.Hand.frame m ρ,
  frame_reference, fun m ρ _ => frame_reference m ρ trivial, trivial, agree⟩

end Cert.Proof

end
